-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boundaries_sorted [hPre_boundaries_sorted : Cert.Pre_boundaries_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_boundaries_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boundaries_sorted [hPre_boundaries_sorted : Cert.Pre_boundaries_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boundaries_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boundaries_sorted [hKernelIdeal : Cert.KernelIdeal.Facts] [hPre_boundaries_sorted : Cert.Pre_boundaries_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boundaries_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boundaries_sorted [hReferenceIdeal : Cert.ReferenceIdeal.Facts] [hPre_boundaries_sorted : Cert.Pre_boundaries_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boundaries_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boundaries_sorted [hKernelIdeal : Cert.KernelIdeal.Facts] [hReferenceIdeal : Cert.ReferenceIdeal.Facts] [hPre_boundaries_sorted : Cert.Pre_boundaries_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boundaries_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boundaries_sorted : Cert.Pre_boundaries_sorted.Facts),
    quiescent_Kernel (hKernel := hKernel)
    ∧ quiescent_KernelIdeal (hKernelIdeal := hKernelIdeal)
    ∧ quiescent_KernelIdeal_pre_boundaries_sorted (hKernelIdeal := hKernelIdeal) (hPre_boundaries_sorted := hPre_boundaries_sorted)
    ∧ quiescent_ReferenceIdeal (hReferenceIdeal := hReferenceIdeal)
    ∧ quiescent_ReferenceIdeal_pre_boundaries_sorted (hReferenceIdeal := hReferenceIdeal) (hPre_boundaries_sorted := hPre_boundaries_sorted)
    ∧ preserves_Kernel_KernelIdeal
    ∧ algebraic_KernelIdeal_ReferenceIdeal_pre_boundaries_sorted (hKernelIdeal := hKernelIdeal) (hReferenceIdeal := hReferenceIdeal) (hPre_boundaries_sorted := hPre_boundaries_sorted)
-- ==== Pre_boundaries_sorted.lean ====
abbrev S16777216 : Shape := ⟨1, ![16777216]⟩
abbrev S1023 : Shape := ⟨1, ![1023]⟩
abbrev S1024 : Shape := ⟨1, ![1024]⟩
abbrev S1022 : Shape := ⟨1, ![1022]⟩
abbrev S_ : Shape := ⟨0, ![]⟩

class Facts : Prop where
  slices_S1023_S1022_0 : S1023.Slices ![0] S1022
  slices_S1023_S1022_1 : S1023.Slices ![1] S1022
  reducesTo_S1022_S_d0 : S1022.ReducesTo [0] S_
  h_S_ : 0 < S_.numel

variable [Facts]

def fn {F : FTy → Type} [FloatOps F] (main_arg0 : FVec F S16777216 .f32) (main_arg1 : FVec F S1023 .f32) (main_arg2 : FVec F S1024 .f32) : IVec S_ 1 :=
  let main_v0 : FVec F S1022 .f32 := (extractStridedSlice S1022 ![0] · slices_S1023_S1022_0) main_arg1
  let main_v1 : FVec F S1022 .f32 := (extractStridedSlice S1022 ![1] · slices_S1023_S1022_1) main_arg1
  let main_v2 : IVec S1022 1 := cmpf .ole main_v0 main_v1
  let main_c : IVec S_ 1 := constantI S_ 1 1#1
  let main_v3 : IVec S_ 1 := (fun x v => Host.reduce IntOp.andi x v reducesTo_S1022_S_d0 h_S_) main_v2 main_c
  main_v3
-- ==== Kernel.lean ====
abbrev S16777216 : Shape := ⟨1, ![16777216]⟩
abbrev S1023 : Shape := ⟨1, ![1023]⟩
abbrev S1024 : Shape := ⟨1, ![1024]⟩
abbrev S_ : Shape := ⟨0, ![]⟩
abbrev S1 : Shape := ⟨1, ![1]⟩
abbrev S16384 : Shape := ⟨1, ![16384]⟩
abbrev S16 : Shape := ⟨1, ![16]⟩

abbrev nBuf : Table → Nat
  | .hbm => 7
  | .local .scVector .vmem => 4
  | _ => 0

abbrev bufTy : (tb : Table) → Fin (nBuf tb) → BufTy
  | .hbm, ⟨0, _⟩ => ⟨S16777216, .f32⟩
  | .hbm, ⟨1, _⟩ => ⟨S1023, .f32⟩
  | .hbm, ⟨2, _⟩ => ⟨S1024, .f32⟩
  | .hbm, ⟨3, _⟩ => ⟨S_, .f32⟩
  | .hbm, ⟨4, _⟩ => ⟨S1, .f32⟩
  | .hbm, ⟨5, _⟩ => ⟨S1024, .f32⟩
  | .hbm, ⟨6, _⟩ => ⟨S16777216, .f32⟩
  | .local .scVector .vmem, ⟨0, _⟩ => ⟨S1024, .f32⟩
  | .local .scVector .vmem, ⟨1, _⟩ => ⟨S1024, .f32⟩
  | .local .scVector .vmem, ⟨2, _⟩ => ⟨S16384, .f32⟩
  | .local .scVector .vmem, ⟨3, _⟩ => ⟨S16384, .f32⟩
  | _, _ => ⟨S16777216, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v1_scv : Ref sig .scVector := ⟨.hbm, 5, rfl⟩
abbrev main_arg2_scv : Ref sig .scVector := ⟨.hbm, 2, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32 : BitVec 32 := 0#32
  let c1_i32 : BitVec 32 := 1#32
  let arg11 : BitVec 32 := Scf.iv c0_i32 c1_i32 k0_t1
  let c16384_i32 : BitVec 32 := 16384#32
  let v4 : BitVec 32 := Scalar.muli arg11 c16384_i32
  let v5 : BitVec 32 := Scalar.addi v2 v4
  ![v5.toNat]
@[reducible] def k0_t2_loop : Scf.Loop 32 :=
  let c0_i32_1 : BitVec 32 := 0#32
  let c1024_i32 : BitVec 32 := 1024#32
  let v6 : BitVec 32 := Scalar.addi c0_i32_1 c1024_i32
  let c1_i32_2 : BitVec 32 := 1#32
  ⟨c0_i32_1, v6, c1_i32_2⟩
def k0_off2 (k0_t2 : Fin k0_t2_loop.trips) : Fin 1 → Nat :=
  let c0_i32_1 : BitVec 32 := 0#32
  let c1_i32_2 : BitVec 32 := 1#32
  let arg12 : BitVec 32 := Scf.iv c0_i32_1 c1_i32_2 k0_t2
  let c16_i32 : BitVec 32 := 16#32
  let v7 : BitVec 32 := Scalar.muli arg12 c16_i32
  let v8 : Index := Scalar.indexCast v7
  ![v8.toNat]

def k0_chk1 (v13 : IVec S16 32) : Prop :=
  (∀ a x, ((![v13] : Fin 1 → IVec S16 32) a x).toNat < S1024.size a)
theorem k0_idx1_inb : ∀ (v13 : IVec S16 32) (k0_hw1 : k0_chk1 v13), ∀ a x, ((![v13] : Fin 1 → IVec S16 32) a x).toNat < S1024.size a := fun v13 k0_hw1 => k0_hw1

def k0_chk2 (v20 : IVec S16 32) : Prop :=
  (∀ a x, ((![v20] : Fin 1 → IVec S16 32) a x).toNat < S1024.size a)
theorem k0_idx2_inb : ∀ (v20 : IVec S16 32) (k0_hw2 : k0_chk2 v20), ∀ a x, ((![v20] : Fin 1 → IVec S16 32) a x).toNat < S1024.size a := fun v20 k0_hw2 => k0_hw2

def k0_chk3 (v27 : IVec S16 32) : Prop :=
  (∀ a x, ((![v27] : Fin 1 → IVec S16 32) a x).toNat < S1024.size a)
theorem k0_idx3_inb : ∀ (v27 : IVec S16 32) (k0_hw3 : k0_chk3 v27), ∀ a x, ((![v27] : Fin 1 → IVec S16 32) a x).toNat < S1024.size a := fun v27 k0_hw3 => k0_hw3

def k0_chk4 (v34 : IVec S16 32) : Prop :=
  (∀ a x, ((![v34] : Fin 1 → IVec S16 32) a x).toNat < S1024.size a)
theorem k0_idx4_inb : ∀ (v34 : IVec S16 32) (k0_hw4 : k0_chk4 v34), ∀ a x, ((![v34] : Fin 1 → IVec S16 32) a x).toNat < S1024.size a := fun v34 k0_hw4 => k0_hw4

def k0_chk5 (v41 : IVec S16 32) : Prop :=
  (∀ a x, ((![v41] : Fin 1 → IVec S16 32) a x).toNat < S1024.size a)
theorem k0_idx5_inb : ∀ (v41 : IVec S16 32) (k0_hw5 : k0_chk5 v41), ∀ a x, ((![v41] : Fin 1 → IVec S16 32) a x).toNat < S1024.size a := fun v41 k0_hw5 => k0_hw5

def k0_chk6 (v48 : IVec S16 32) : Prop :=
  (∀ a x, ((![v48] : Fin 1 → IVec S16 32) a x).toNat < S1024.size a)
theorem k0_idx6_inb : ∀ (v48 : IVec S16 32) (k0_hw6 : k0_chk6 v48), ∀ a x, ((![v48] : Fin 1 → IVec S16 32) a x).toNat < S1024.size a := fun v48 k0_hw6 => k0_hw6

def k0_chk7 (v55 : IVec S16 32) : Prop :=
  (∀ a x, ((![v55] : Fin 1 → IVec S16 32) a x).toNat < S1024.size a)
theorem k0_idx7_inb : ∀ (v55 : IVec S16 32) (k0_hw7 : k0_chk7 v55), ∀ a x, ((![v55] : Fin 1 → IVec S16 32) a x).toNat < S1024.size a := fun v55 k0_hw7 => k0_hw7

def k0_chk8 (v62 : IVec S16 32) : Prop :=
  (∀ a x, ((![v62] : Fin 1 → IVec S16 32) a x).toNat < S1024.size a)
theorem k0_idx8_inb : ∀ (v62 : IVec S16 32) (k0_hw8 : k0_chk8 v62), ∀ a x, ((![v62] : Fin 1 → IVec S16 32) a x).toNat < S1024.size a := fun v62 k0_hw8 => k0_hw8

def k0_chk9 (v69 : IVec S16 32) : Prop :=
  (∀ a x, ((![v69] : Fin 1 → IVec S16 32) a x).toNat < S1024.size a)
theorem k0_idx9_inb : ∀ (v69 : IVec S16 32) (k0_hw9 : k0_chk9 v69), ∀ a x, ((![v69] : Fin 1 → IVec S16 32) a x).toNat < S1024.size a := fun v69 k0_hw9 => k0_hw9

def k0_chk10 (v76 : IVec S16 32) : Prop :=
  (∀ a x, ((![v76] : Fin 1 → IVec S16 32) a x).toNat < S1024.size a)
theorem k0_idx10_inb : ∀ (v76 : IVec S16 32) (k0_hw10 : k0_chk10 v76), ∀ a x, ((![v76] : Fin 1 → IVec S16 32) a x).toNat < S1024.size a := fun v76 k0_hw10 => k0_hw10

def k0_chk11 (v81 : IVec S16 32) : Prop :=
  (∀ a x, ((![v81] : Fin 1 → IVec S16 32) a x).toNat < S1024.size a)
theorem k0_idx11_inb : ∀ (v81 : IVec S16 32) (k0_hw11 : k0_chk11 v81), ∀ a x, ((![v81] : Fin 1 → IVec S16 32) a x).toNat < S1024.size a := fun v81 k0_hw11 => k0_hw11
def k0_off3 (k0_t2 : Fin k0_t2_loop.trips) : Fin 1 → Nat :=
  let c0_i32_1 : BitVec 32 := 0#32
  let c1_i32_2 : BitVec 32 := 1#32
  let arg12 : BitVec 32 := Scf.iv c0_i32_1 c1_i32_2 k0_t2
  let c16_i32_11 : BitVec 32 := 16#32
  let v83 : BitVec 32 := Scalar.muli arg12 c16_i32_11
  let v84 : Index := Scalar.indexCast v83
  ![v84.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S1023 : Shape := ⟨1, ![1023]⟩
abbrev S1024 : Shape := ⟨1, ![1024]⟩
abbrev S1x1023 : Shape := ⟨2, ![1, 1023]⟩
abbrev S16777216x1 : Shape := ⟨2, ![16777216, 1]⟩
abbrev S16777216x1023 : Shape := ⟨2, ![16777216, 1023]⟩
abbrev S_ : Shape := ⟨0, ![]⟩
abbrev S1 : Shape := ⟨1, ![1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S1023, .f32⟩
  | .hbm, ⟨2, _⟩ => ⟨S1024, .f32⟩
  | .hbm, ⟨3, _⟩ => ⟨S1x1023, .f32⟩
  | .hbm, ⟨4, _⟩ => ⟨S16777216x1, .f32⟩
  | .hbm, ⟨5, _⟩ => ⟨S16777216x1023, .f32⟩
  | .hbm, ⟨6, _⟩ => ⟨S16777216x1023, .f32⟩
  | .hbm, ⟨7, _⟩ => ⟨S16777216x1023, .i1⟩
  | .hbm, ⟨8, _⟩ => ⟨S16777216x1023, .i32⟩
  | .hbm, ⟨9, _⟩ => ⟨S_, .i32⟩
  | .hbm, ⟨10, _⟩ => ⟨S16777216, .i32⟩
  | .hbm, ⟨11, _⟩ => ⟨S_, .i32⟩
  | .hbm, ⟨12, _⟩ => ⟨S16777216, .i32⟩
  | .hbm, ⟨13, _⟩ => ⟨S16777216, .i1⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S16777216, .i32⟩
  | .hbm, ⟨18, _⟩ => ⟨S16777216x1, .i32⟩
  | .hbm, ⟨19, _⟩ => ⟨S1, .i32⟩
  | .hbm, ⟨20, _⟩ => ⟨S_, .i32⟩
  | .hbm, ⟨21, _⟩ => ⟨S16777216x1, .i32⟩
  | .hbm, ⟨22, _⟩ => ⟨S16777216x1, .i1⟩
  | .hbm, ⟨23, _⟩ => ⟨S1x1, .i32⟩
  | .hbm, ⟨24, _⟩ => ⟨S16777216x1, .i32⟩
  | .hbm, ⟨25, _⟩ => ⟨S16777216x1, .i1⟩
  | .hbm, ⟨26, _⟩ => ⟨S16777216x1, .i1⟩
  | .hbm, ⟨27, _⟩ => ⟨S_, .i1⟩
  | .hbm, ⟨28, _⟩ => ⟨S16777216, .i1⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v7 : Ref sig .tc := ⟨.hbm, 32, rfl⟩

abbrev nD : Nat := 1
abbrev τ : Topo := Topo.v7x

variable {F : FTy → Type} [FloatOps F]
-- ==== Proof.Search.lean ====
/-
  A binary search over a table of 1024 words, ten halving steps from position 0, as a function of numbers (`pos`) and as
  the same steps done on sixteen lanes of 32-bit words (`vpos`), with the two facts the kernel's proof uses: the lanes hold
  the numbers (`vpos_toNat`), and every probed index is inside the table (`probe_lt`). Under an ordering hypothesis the
  search is a count (`pos_eq_count`). Nothing here mentions a program.
-/
module

public import Idealize.ShloMosaic.Lib.SparseCore.Ops

@[expose] public section

noncomputable section

namespace Cert.Search

open Idealize.ShloMosaic

variable {F : FTy → Type} {α : Type}

/-- The shape of a table of 1024 words. -/
abbrev S1k : Shape := ⟨1, ![1024]⟩
/-- The shape of a sixteen-lane register. -/
abbrev S16l : Shape := ⟨1, ![16]⟩

/-- Index `n` of a table, wrapped into range. -/
def ix (n : Nat) : S1k.Idx := fun a => ⟨n % 1024, by
  obtain rfl := Fin.eq_zero a; exact Nat.mod_lt _ (by decide)⟩

/-- Word `n` of a table (`n` below 1024; wrapped otherwise). -/
def word (T : S1k.Idx → α) (n : Nat) : α := T (ix n)

/-- The table read at the sixteen indices of `q`. -/
def gath (T : S1k.Idx → α) (q : IVec S16l 32) : S16l.Idx → α := fun l => word T (q l).toNat

/-- The indexed load of a table, its indices in range, is `gath`. -/
theorem loadIdx_eq {e : EltTy} (T : Vec F S1k e) (q : IVec S16l 32)
    (h : ∀ a x, ((![q] : Fin 1 → IVec S16l 32) a x).toNat < S1k.size a) :
    loadIdx T ![q] h = gath T q := by
  funext l
  refine congrArg T (funext fun a => Fin.ext ?_)
  obtain rfl := Fin.eq_zero a
  show (q l).toNat = (q l).toNat % 1024
  exact (Nat.mod_eq_of_lt (h 0 l)).symm

variable [FloatOps F]

/-- One halving step at half-width `h` from position `n`: past `h` words when the last of them is at most `x`. -/
def step (T : S1k.Idx → F .f32) (x : F .f32) (h n : Nat) : Nat :=
  if FloatOps.cmpf .ole (word T (n + (h - 1))) x = 1#1 then n + h else n

/-- The position after `k` steps (half-widths 512, 256, …, 1). -/
def pos (T : S1k.Idx → F .f32) (x : F .f32) : Nat → Nat
  | 0 => 0
  | k + 1 => step T x (2 ^ (9 - k)) (pos T x k)

/-- The step on sixteen lanes, `h` the half-width and `h'` one less. -/
def vstep (T : S1k.Idx → F .f32) (x : FVec F S16l .f32) (h h' : BitVec 32) (p : IVec S16l 32) : IVec S16l 32 :=
  select (cmpf .ole (gath T (addi p (broadcast S16l h')) : FVec F S16l .f32) x) (addi p (broadcast S16l h)) p

/-- The lanes after `k` steps. -/
def vpos (T : S1k.Idx → F .f32) (x : FVec F S16l .f32) : Nat → IVec S16l 32
  | 0 => broadcast S16l 0#32
  | k + 1 => vstep T x (BitVec.ofNat 32 (2 ^ (9 - k))) (BitVec.ofNat 32 (2 ^ (9 - k) - 1)) (vpos T x k)

/-- What the lanes probe at step `k`. -/
def probe (T : S1k.Idx → F .f32) (x : FVec F S16l .f32) (k : Nat) : IVec S16l 32 :=
  addi (vpos T x k) (broadcast S16l (BitVec.ofNat 32 (2 ^ (9 - k) - 1)))

/-- After `k` steps there is room for the half-widths left: the position is at most `1024 - 2 ^ (10 - k)`. -/
theorem pos_bound (T : S1k.Idx → F .f32) (x : F .f32) : ∀ k, k ≤ 10 → pos T x k + 2 ^ (10 - k) ≤ 1024
  | 0, _ => by simp [pos]
  | k + 1, hk => by
    have ih := pos_bound T x k (by omega)
    have e : 2 ^ (10 - k) = 2 * 2 ^ (9 - k) := by rw [show 10 - k = (9 - k) + 1 by omega, pow_succ, Nat.mul_comm]
    have e' : 10 - (k + 1) = 9 - k := by omega
    rw [e] at ih
    unfold pos step
    rw [e']
    split <;> omega

theorem pow_le (k : Nat) : 2 ^ (9 - k) ≤ 512 :=
  (Nat.pow_le_pow_right (by decide) (show 9 - k ≤ 9 by omega)).trans (by decide)

/-- The lanes hold the positions. -/
theorem vpos_toNat (T : S1k.Idx → F .f32) (x : FVec F S16l .f32) (l : S16l.Idx) :
    ∀ k, k ≤ 10 → (vpos T x k l).toNat = pos T (x l) k
  | 0, _ => rfl
  | k + 1, hk => by
    have ih := vpos_toNat T x l k (by omega)
    have hb := pos_bound T (x l) k (by omega)
    have e : 2 ^ (10 - k) = 2 * 2 ^ (9 - k) := by rw [show 10 - k = (9 - k) + 1 by omega, pow_succ, Nat.mul_comm]
    have hp := pow_le k
    have hpos : 0 < 2 ^ (9 - k) := Nat.two_pow_pos _
    rw [e] at hb
    have h1 : (vpos T x k l + BitVec.ofNat 32 (2 ^ (9 - k) - 1)).toNat = pos T (x l) k + (2 ^ (9 - k) - 1) := by
      rw [BitVec.toNat_add, ih, BitVec.toNat_ofNat]; omega
    have h2 : (vpos T x k l + BitVec.ofNat 32 (2 ^ (9 - k))).toNat = pos T (x l) k + 2 ^ (9 - k) := by
      rw [BitVec.toNat_add, ih, BitVec.toNat_ofNat]; omega
    show (if FloatOps.cmpf .ole (word T (vpos T x k l + BitVec.ofNat 32 (2 ^ (9 - k) - 1)).toNat) (x l) = 1#1
        then vpos T x k l + BitVec.ofNat 32 (2 ^ (9 - k)) else vpos T x k l).toNat = _
    rw [h1]
    show _ = step T (x l) (2 ^ (9 - k)) (pos T (x l) k)
    unfold step
    split
    · exact h2
    · exact ih

/-- Every probed index is inside the table. -/
theorem probe_lt (T : S1k.Idx → F .f32) (x : FVec F S16l .f32) (k : Nat) (hk : k < 10) (l : S16l.Idx) :
    (probe T x k l).toNat < 1024 := by
  have hv := vpos_toNat T x l k (by omega)
  have hb := pos_bound T (x l) k (by omega)
  have e : 2 ^ (10 - k) = 2 * 2 ^ (9 - k) := by rw [show 10 - k = (9 - k) + 1 by omega, pow_succ, Nat.mul_comm]
  have hp := pow_le k
  have hpos : 0 < 2 ^ (9 - k) := Nat.two_pow_pos _
  rw [e] at hb
  show (vpos T x k l + BitVec.ofNat 32 (2 ^ (9 - k) - 1)).toNat < 1024
  rw [BitVec.toNat_add, hv, BitVec.toNat_ofNat]; omega

/-- The final position is inside the table. -/
theorem vpos_lt (T : S1k.Idx → F .f32) (x : FVec F S16l .f32) (l : S16l.Idx) : (vpos T x 10 l).toNat < 1024 := by
  have hv := vpos_toNat T x l 10 (by omega)
  have hb := pos_bound T (x l) 10 (by omega)
  omega

/-- The result for one number: the word of `V` at the position the search of `T` ends at. -/
def look (T V : S1k.Idx → F .f32) (x : F .f32) : F .f32 := word V (pos T x 10)

/-- Sixteen results at once. -/
theorem gath_vpos (T V : S1k.Idx → F .f32) (x : FVec F S16l .f32) (l : S16l.Idx) :
    gath V (vpos T x 10) l = look T V (x l) := by
  unfold gath look; rw [vpos_toNat T x l 10 le_rfl]

/-- THE SEARCH IS A COUNT: when exactly the words below number `c` are at most `x` (of words 0 … 1022), the search ends at
    `c`. -/
theorem pos_eq_count (T : S1k.Idx → F .f32) (x : F .f32) (c : Nat) (hc : c ≤ 1023)
    (h : ∀ j < 1023, FloatOps.cmpf .ole (word T j) x = 1#1 ↔ j < c) : pos T x 10 = c := by
  have key : ∀ k, k ≤ 10 → pos T x k ≤ c ∧ c < pos T x k + 2 ^ (10 - k) := by
    intro k
    induction k with
    | zero => intro _; simp only [pos]; omega
    | succ k ih =>
      intro hk
      obtain ⟨h1, h2⟩ := ih (by omega)
      have hb := pos_bound T x k (by omega)
      have e : 2 ^ (10 - k) = 2 * 2 ^ (9 - k) := by rw [show 10 - k = (9 - k) + 1 by omega, pow_succ, Nat.mul_comm]
      have e' : 10 - (k + 1) = 9 - k := by omega
      have hpos : 0 < 2 ^ (9 - k) := Nat.two_pow_pos _
      rw [e] at hb h2
      rw [e']
      have hj := h (pos T x k + (2 ^ (9 - k) - 1)) (by omega)
      show step T x (2 ^ (9 - k)) (pos T x k) ≤ c ∧ _ < step T x (2 ^ (9 - k)) (pos T x k) + _
      unfold step
      split
      · next hh => have := hj.mp hh; omega
      · next hh => have : ¬ _ := fun q => hh (hj.mpr q); omega
  have := key 10 le_rfl
  simp only [Nat.sub_self, pow_zero] at this
  omega

end Cert.Search

end
-- ==== Proof.TileIdeal.lean ====
/-
  One tile's run of the kernel, once, at a symbolic pair of SparseCore and tile: the two table fetches, and for each of
  its thirty-two chunks the fetch of the chunk of `x`, the thousand and twenty-four sixteen-lane searches over it, and the
  write-out. The invariants carry the values: after the run the tile's part of the result holds, at every index `j`, the
  word of the values table at the position the binary search of the boundaries table ends at for `x j` (`result`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Search

@[expose] public section

noncomputable section

namespace Cert.Proof.TileIdeal

open Cert.KernelIdeal Cert.KernelIdeal.Gen
open Cert.Search (look gath vpos probe)

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters

local notation "𝕄" => MT nD τ sig (HIx 1) (Elt F) ℕ UU ℕ

abbrev xLoc (d : Dev nD) : Loc nD τ sig := (SparseCore.T d).loc main_arg0
abbrev tLoc (d : Dev nD) : Loc nD τ sig := (SparseCore.T d).loc main_v1
abbrev vLoc (d : Dev nD) : Loc nD τ sig := (SparseCore.T d).loc main_arg2
abbrev oLoc (d : Dev nD) : Loc nD τ sig := (SparseCore.T d).loc main_v2

local notation "xV" => (Memref.whole Cert.KernelIdeal.main_arg0_scv : Memref Cert.KernelIdeal.sig Kind.scVector Space.hbm Cert.KernelIdeal.S16777216 EltTy.f32)
local notation "tV" => (Memref.whole Cert.KernelIdeal.main_v1_scv : Memref Cert.KernelIdeal.sig Kind.scVector Space.hbm Cert.KernelIdeal.S1024 EltTy.f32)
local notation "vV" => (Memref.whole Cert.KernelIdeal.main_arg2_scv : Memref Cert.KernelIdeal.sig Kind.scVector Space.hbm Cert.KernelIdeal.S1024 EltTy.f32)
local notation "oV" => (Memref.whole Cert.KernelIdeal.main_v2_scv : Memref Cert.KernelIdeal.sig Kind.scVector Space.hbm Cert.KernelIdeal.S16777216 EltTy.f32)
local notation "bT" => (Memref.whole Cert.KernelIdeal.cc0_scratch0 : Memref Cert.KernelIdeal.sig Kind.scVector Space.vmem Cert.KernelIdeal.S1024 EltTy.f32)
local notation "bV" => (Memref.whole Cert.KernelIdeal.cc0_scratch1 : Memref Cert.KernelIdeal.sig Kind.scVector Space.vmem Cert.KernelIdeal.S1024 EltTy.f32)
local notation "bX" => (Memref.whole Cert.KernelIdeal.cc0_scratch2 : Memref Cert.KernelIdeal.sig Kind.scVector Space.vmem Cert.KernelIdeal.S16384 EltTy.f32)
local notation "bO" => (Memref.whole Cert.KernelIdeal.cc0_scratch3 : Memref Cert.KernelIdeal.sig Kind.scVector Space.vmem Cert.KernelIdeal.S16384 EltTy.f32)

/-! ## Parts of the result -/

/-- Part `w` of the result's thirty-two: 524288 consecutive indices. -/
def slab (w : ℕ) : Finset S16777216.Idx := Finset.univ.filter fun j => (j 0).val / 524288 = w

theorem mem_slab {w : ℕ} {j : S16777216.Idx} : j ∈ slab w ↔ (j 0).val / 524288 = w := by simp [slab]

section Body

variable (d : Dev nD) (L : grid0.Coords)

abbrev cV (L : grid0.Coords) : Fin τ.nSC := (L 0).castLE hcore0
abbrev jV (L : grid0.Coords) : Fin τ.nSub := (L 1).castLE hsub0
/-- The tile's number: which part of the result is its. -/
abbrev wid (L : grid0.Coords) : ℕ := 2 * (L 1).val + (L 0).val

/-- Chunk `t` of the tile, as it addresses it in `x` and in the result. -/
abbrev chunk (t : Fin k0_t1_loop.trips) : Rect S16777216 := Rect.unit (s := S16777216) (k0_off1 L t) S16384.size (k0_off1_inb L t)
abbrev xC (t : Fin k0_t1_loop.trips) : Memref sig .scVector .hbm S16384 .f32 := (xV).slice (chunk L t) (fun _ => rfl)
abbrev oC (t : Fin k0_t1_loop.trips) : Memref sig .scVector .hbm S16384 .f32 := (oV).slice (chunk L t) (fun _ => rfl)
/-- The sixteen lanes of trip `k` in a chunk. -/
abbrev lanes (k : Fin k0_t2_loop.trips) : Rect S16384 := Rect.unit (s := S16384) (k0_off3 k) S16.size (k0_off3_inb k)

theorem mem_chunk (t : Fin k0_t1_loop.trips) (j : S16777216.Idx) :
    j ∈ (chunk L t).set ↔ 524288 * wid L + 16384 * t.val ≤ (j 0).val ∧ (j 0).val < 524288 * wid L + 16384 * t.val + 16384 := by
  rw [Rect.mem_set_unit, k0_off1_eq]
  have e : wid L = 2 * (L 1).val + (L 0).val := rfl
  rw [e]
  constructor
  · intro h
    have := h 0
    simp only [Matrix.cons_val_zero] at this
    omega
  · intro h a
    obtain rfl := Fin.eq_zero a
    simp only [Matrix.cons_val_zero]
    omega

theorem mem_lanes (k : Fin k0_t2_loop.trips) (j : S16384.Idx) :
    j ∈ (lanes k).set ↔ 16 * k.val ≤ (j 0).val ∧ (j 0).val < 16 * k.val + 16 := by
  rw [Rect.mem_set_unit, k0_off3_eq]
  constructor
  · intro h
    have := h 0
    simpa only [Matrix.cons_val_zero] using this
  · intro h a
    obtain rfl := Fin.eq_zero a
    simpa only [Matrix.cons_val_zero] using h

theorem trips1 : k0_t1_loop.trips = 32 := by decide
theorem trips2 : k0_t2_loop.trips = 1024 := by decide +kernel

theorem bound0 : grid0.bound 0 = 2 := rfl
theorem bound1 : grid0.bound 1 = 16 := rfl

theorem chunk_subset (t : Fin k0_t1_loop.trips) : (chunk L t).set ⊆ slab (wid L) := by
  intro j hj
  have h := (mem_chunk L t j).mp hj
  have ht : t.val < 32 := lt_of_lt_of_eq t.isLt trips1
  rw [mem_slab]
  omega

variable [FloatOps F]

/-- The result's words, of `x`, the padded boundaries and the values. -/
def result (fx : S16777216.Idx → F .f32) (ft fv : S1024.Idx → F .f32) : S16777216.Idx → F .f32 := fun j => look ft fv (fx j)

theorem pay11_eq (v : Vec F S16 .f32) : k0_pay11 v = v := by
  funext j
  show v (Shape.reshapeEquiv shapeCasts_S16_S16 j) = v j
  rw [Shape.reshapeEquiv_self]

/-! ## The named index computations are the search's: positions `vpos`, probes `probe` -/

section Pay
variable (T : S1024.Idx → F .f32) (v : Vec F S16 .f32)

theorem prb0 : k0_pay13 = probe T (k0_pay11 v) 0 := rfl
theorem pos1 : k0_pay14 v (gath T (probe T (k0_pay11 v) 0)) = vpos T (k0_pay11 v) 1 := rfl
theorem prb1 : k0_pay15 v (gath T (probe T (k0_pay11 v) 0)) = probe T (k0_pay11 v) 1 := by
  unfold k0_pay15; rw [pos1]; rfl
theorem pos2 : k0_pay16 v (gath T (probe T (k0_pay11 v) 0)) (gath T (probe T (k0_pay11 v) 1)) = vpos T (k0_pay11 v) 2 := by
  unfold k0_pay16; rw [pos1]; rfl
theorem prb2 : k0_pay17 v (gath T (probe T (k0_pay11 v) 0)) (gath T (probe T (k0_pay11 v) 1)) = probe T (k0_pay11 v) 2 := by
  unfold k0_pay17; rw [pos2]; rfl
theorem pos3 : k0_pay18 v (gath T (probe T (k0_pay11 v) 0)) (gath T (probe T (k0_pay11 v) 1)) (gath T (probe T (k0_pay11 v) 2)) = vpos T (k0_pay11 v) 3 := by
  unfold k0_pay18; rw [pos2]; rfl
theorem prb3 : k0_pay19 v (gath T (probe T (k0_pay11 v) 0)) (gath T (probe T (k0_pay11 v) 1)) (gath T (probe T (k0_pay11 v) 2)) = probe T (k0_pay11 v) 3 := by
  unfold k0_pay19; rw [pos3]; rfl
theorem pos4 : k0_pay20 v (gath T (probe T (k0_pay11 v) 0)) (gath T (probe T (k0_pay11 v) 1)) (gath T (probe T (k0_pay11 v) 2)) (gath T (probe T (k0_pay11 v) 3)) = vpos T (k0_pay11 v) 4 := by
  unfold k0_pay20; rw [pos3]; rfl
theorem prb4 : k0_pay21 v (gath T (probe T (k0_pay11 v) 0)) (gath T (probe T (k0_pay11 v) 1)) (gath T (probe T (k0_pay11 v) 2)) (gath T (probe T (k0_pay11 v) 3)) = probe T (k0_pay11 v) 4 := by
  unfold k0_pay21; rw [pos4]; rfl
theorem pos5 : k0_pay22 v (gath T (probe T (k0_pay11 v) 0)) (gath T (probe T (k0_pay11 v) 1)) (gath T (probe T (k0_pay11 v) 2)) (gath T (probe T (k0_pay11 v) 3)) (gath T (probe T (k0_pay11 v) 4)) = vpos T (k0_pay11 v) 5 := by
  unfold k0_pay22; rw [pos4]; rfl
theorem prb5 : addi (k0_pay22 v (gath T (probe T (k0_pay11 v) 0)) (gath T (probe T (k0_pay11 v) 1)) (gath T (probe T (k0_pay11 v) 2)) (gath T (probe T (k0_pay11 v) 3)) (gath T (probe T (k0_pay11 v) 4))) k0_pay23 = probe T (k0_pay11 v) 5 := by
  rw [pos5]; rfl
theorem pos6 : k0_pay1 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) = vpos T (k0_pay11 v) 6 := by
  unfold k0_pay1; rw [pos5]; rfl
theorem prb6 : k0_pay2 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) = probe T (k0_pay11 v) 6 := by
  unfold k0_pay2; rw [pos6]; rfl
theorem pos7 : k0_pay3 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) (gath T (probe T (k0_pay11 v) 6)) = vpos T (k0_pay11 v) 7 := by
  unfold k0_pay3; rw [pos6]; rfl
theorem prb7 : k0_pay4 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) (gath T (probe T (k0_pay11 v) 6)) = probe T (k0_pay11 v) 7 := by
  unfold k0_pay4; rw [pos7]; rfl
theorem pos8 : k0_pay5 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) (gath T (probe T (k0_pay11 v) 6)) (gath T (probe T (k0_pay11 v) 7)) = vpos T (k0_pay11 v) 8 := by
  unfold k0_pay5; rw [pos7]; rfl
theorem prb8 : k0_pay6 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) (gath T (probe T (k0_pay11 v) 6)) (gath T (probe T (k0_pay11 v) 7)) = probe T (k0_pay11 v) 8 := by
  unfold k0_pay6; rw [pos8]; rfl
theorem pos9 : k0_pay7 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) (gath T (probe T (k0_pay11 v) 6)) (gath T (probe T (k0_pay11 v) 7)) (gath T (probe T (k0_pay11 v) 8)) = vpos T (k0_pay11 v) 9 := by
  unfold k0_pay7; rw [pos8]; rfl
theorem prb9 : k0_pay8 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) (gath T (probe T (k0_pay11 v) 6)) (gath T (probe T (k0_pay11 v) 7)) (gath T (probe T (k0_pay11 v) 8)) = probe T (k0_pay11 v) 9 := by
  unfold k0_pay8; rw [pos9]; rfl
theorem pos10 : k0_pay9 (k0_pay11 v) (k0_pay22 v (gath T (probe T (k0_pay11 v) 0)) (gath T (probe T (k0_pay11 v) 1)) (gath T (probe T (k0_pay11 v) 2)) (gath T (probe T (k0_pay11 v) 3)) (gath T (probe T (k0_pay11 v) 4))) (gath T (probe T (k0_pay11 v) 5)) (gath T (probe T (k0_pay11 v) 6)) (gath T (probe T (k0_pay11 v) 7)) (gath T (probe T (k0_pay11 v) 8)) (gath T (probe T (k0_pay11 v) 9)) = vpos T (k0_pay11 v) 10 := by
  unfold k0_pay9; rw [pos9]; rfl

end Pay

/-- A gather from a table held in the tile's memory, at the head of a program: it continues at `gath` of the contents. -/
theorem wp_gath_bT {α : Type} {Q : α → sProp 𝕄} (f : S1024.Idx → F .f32) (q : IVec S16 32)
    (h : ∀ a x, ((![q] : Fin 1 → IVec S16 32) a x).toNat < S1024.size a) (hl : (bT).view.Loads)
    (k : Vec F S16 .f32 → Prog (TpuEff nD τ sig (Elt F) Λ₀ (V d (cV L) (jV L)).2) α) :
    ((bT).view.loc (V d (cV L) (jV L)) ↦{fullShare} f)
      ⊢ iprop((((bT).view.loc (V d (cV L) (jV L)) ↦{fullShare} f) -∗ wp frame (wpE (defs₀ (F := F)) 𝒱₀ (V d (cV L) (jV L)) none) Set.univ (k (gath f q)) Q)
        -∗ wp frame (wpE (defs₀ (F := F)) 𝒱₀ (V d (cV L) (jV L)) none) Set.univ (SparseCore.vectorLoadIdx bT ![q] h hl >>= k) Q) := by
  have e := SparseCore.wp_vectorLoadIdx (defs := defs₀ (F := F)) (Q := Q) 𝒱₀ (V d (cV L) (jV L)) none Set.univ (base := bT) (idxs := ![q]) (h := h) (hl := hl) (k := k)
    (S := Finset.univ) (q := fullShare) (f := f) (Finset.subset_univ _)
  rw [Memref.read_access_whole (Elt F) cc0_scratch0 f] at e
  rw [← Cert.Search.loadIdx_eq (F := F) (e := .f32) f q h]
  exact e
theorem wp_gath_bV {α : Type} {Q : α → sProp 𝕄} (f : S1024.Idx → F .f32) (q : IVec S16 32)
    (h : ∀ a x, ((![q] : Fin 1 → IVec S16 32) a x).toNat < S1024.size a) (hl : (bV).view.Loads)
    (k : Vec F S16 .f32 → Prog (TpuEff nD τ sig (Elt F) Λ₀ (V d (cV L) (jV L)).2) α) :
    ((bV).view.loc (V d (cV L) (jV L)) ↦{fullShare} f)
      ⊢ iprop((((bV).view.loc (V d (cV L) (jV L)) ↦{fullShare} f) -∗ wp frame (wpE (defs₀ (F := F)) 𝒱₀ (V d (cV L) (jV L)) none) Set.univ (k (gath f q)) Q)
        -∗ wp frame (wpE (defs₀ (F := F)) 𝒱₀ (V d (cV L) (jV L)) none) Set.univ (SparseCore.vectorLoadIdx bV ![q] h hl >>= k) Q) := by
  have e := SparseCore.wp_vectorLoadIdx (defs := defs₀ (F := F)) (Q := Q) 𝒱₀ (V d (cV L) (jV L)) none Set.univ (base := bV) (idxs := ![q]) (h := h) (hl := hl) (k := k)
    (S := Finset.univ) (q := fullShare) (f := f) (Finset.subset_univ _)
  rw [Memref.read_access_whole (Elt F) cc0_scratch1 f] at e
  rw [← Cert.Search.loadIdx_eq (F := F) (e := .f32) f q h]
  exact e

/-- The kernel's index check, for a probe and for the final position. -/
theorem chk_probe (T : S1024.Idx → F .f32) (x : FVec F S16 .f32) (n : ℕ) (hn : n < 10) :
    ∀ a l, ((![probe T x n] : Fin 1 → IVec S16 32) a l).toNat < S1024.size a := by
  intro a l; obtain rfl := Fin.eq_zero a; exact Cert.Search.probe_lt T x n hn l
theorem chk_vpos (T : S1024.Idx → F .f32) (x : FVec F S16 .f32) :
    ∀ a l, ((![vpos T x 10] : Fin 1 → IVec S16 32) a l).toNat < S1024.size a := by
  intro a l; obtain rfl := Fin.eq_zero a; exact Cert.Search.vpos_lt T x l

theorem ck1 (T : S1024.Idx → F .f32) (x : FVec F S16 .f32) : k0_chk1 (probe T x 0) := chk_probe T x 0 (by decide)
theorem ck2 (T : S1024.Idx → F .f32) (x : FVec F S16 .f32) : k0_chk2 (probe T x 1) := chk_probe T x 1 (by decide)
theorem ck3 (T : S1024.Idx → F .f32) (x : FVec F S16 .f32) : k0_chk3 (probe T x 2) := chk_probe T x 2 (by decide)
theorem ck4 (T : S1024.Idx → F .f32) (x : FVec F S16 .f32) : k0_chk4 (probe T x 3) := chk_probe T x 3 (by decide)
theorem ck5 (T : S1024.Idx → F .f32) (x : FVec F S16 .f32) : k0_chk5 (probe T x 4) := chk_probe T x 4 (by decide)
theorem ck6 (T : S1024.Idx → F .f32) (x : FVec F S16 .f32) : k0_chk6 (probe T x 5) := chk_probe T x 5 (by decide)
theorem ck7 (T : S1024.Idx → F .f32) (x : FVec F S16 .f32) : k0_chk7 (probe T x 6) := chk_probe T x 6 (by decide)
theorem ck8 (T : S1024.Idx → F .f32) (x : FVec F S16 .f32) : k0_chk8 (probe T x 7) := chk_probe T x 7 (by decide)
theorem ck9 (T : S1024.Idx → F .f32) (x : FVec F S16 .f32) : k0_chk9 (probe T x 8) := chk_probe T x 8 (by decide)
theorem ck10 (T : S1024.Idx → F .f32) (x : FVec F S16 .f32) : k0_chk10 (probe T x 9) := chk_probe T x 9 (by decide)
theorem ck11 (T : S1024.Idx → F .f32) (x : FVec F S16 .f32) : k0_chk11 (vpos T x 10) := chk_vpos T x

/-- Before trip `k` of a chunk's searches: the tables and the chunk of `x` in the tile's memory, and the first `16 * k`
    words of the outgoing chunk at the results for the chunk's. -/
def inv2 (gt gv : S1024.Idx → F .f32) (gx : S16384.Idx → F .f32) (k : ℕ) (_ : Unit) : sProp 𝕄 :=
  iprop(((bT).view.loc (V d (cV L) (jV L)) ↦{fullShare} gt) ∗ ((bV).view.loc (V d (cV L) (jV L)) ↦{fullShare} gv)
    ∗ ((bX).view.loc (V d (cV L) (jV L)) ↦{fullShare} gx)
    ∗ ∃ g : S16384.Idx → F .f32, ⌜∀ j : S16384.Idx, (j 0).val < 16 * k → g j = look gt gv (gx j)⌝
        ∗ (bO).view.loc (V d (cV L) (jV L)) ↦{fullShare} g)

/-- A store of sixteen lanes: those lanes hold the stored words, -/
theorem store_at (k : Fin k0_t2_loop.trips) (g : S16384.Idx → F .f32) (w : (lanes k).shape.Idx → F .f32) (l : (lanes k).shape.Idx) :
    ((bO).access (lanes k)).write (Elt F) g w Finset.univ ((lanes k).emb l) = w l :=
  (View.write_emb_of_mem (v := (bO).access (lanes k)) (Val := Elt F) g w (Finset.mem_univ l)).trans (cast_eq _ _)
/-- and the others what they held. -/
theorem store_off (k : Fin k0_t2_loop.trips) (g : S16384.Idx → F .f32) (w : (lanes k).shape.Idx → F .f32) (j : S16384.Idx)
    (h : j ∉ (lanes k).set) : ((bO).access (lanes k)).write (Elt F) g w Finset.univ j = g j :=
  View.write_of_not_mem (v := (bO).access (lanes k)) (Val := Elt F) g w Finset.univ (by
    rw [View.setOn_univ]; intro h'; exact h (by rw [← View.set_slice_whole (cc0_scratch3 : Ref sig .scVector) (lanes k)]; exact h'))

/-- The sixteen lanes loaded from the chunk of `x` are those the trip stores to. -/
theorem load_at (k : Fin k0_t2_loop.trips) (gx : S16384.Idx → F .f32) (l : (lanes k).shape.Idx) :
    ((bX).access (Rect.unit (s := S16384) (k0_off2 k) S16.size (k0_off2_inb k))).read (Elt F) gx l = gx ((lanes k).emb l) := by
  rw [View.read_apply, cast_eq]
  refine congrArg gx ?_
  show (Rect.unit (s := S16384) (k0_off2 k) S16.size (k0_off2_inb k)).emb l = (lanes k).emb l
  funext a; apply Fin.ext
  have e : k0_off2 k a = k0_off3 k a := by rw [k0_off2_eq, k0_off3_eq]
  simp only [Rect.emb_apply]
  show k0_off2 k a + 1 * (l a).val = k0_off3 k a + 1 * (l a).val
  rw [e]

/-- A trip's searches, one trip on: sixteen more words of the outgoing chunk. -/
theorem trip_val (gt gv : S1024.Idx → F .f32) (gx g : S16384.Idx → F .f32) (k : Fin k0_t2_loop.trips)
    (hg : ∀ j : S16384.Idx, (j 0).val < 16 * k.val → g j = look gt gv (gx j)) (xr : Vec F S16 .f32)
    (hxr : ∀ l : (lanes k).shape.Idx, xr l = gx ((lanes k).emb l)) (j : S16384.Idx) (hj : (j 0).val < 16 * (k.val + 1)) :
    ((bO).access (lanes k)).write (Elt F) g (k0_pay10 (gath gv (vpos gt (k0_pay11 xr) 10))) Finset.univ j = look gt gv (gx j) := by
  by_cases h : j ∈ (lanes k).set
  · rw [← Rect.map_emb_univ] at h
    obtain ⟨l, -, rfl⟩ := Finset.mem_map.mp h
    rw [store_at, pay11_eq, ← hxr]
    rw [show k0_pay10 (gath gv (vpos gt xr 10)) = gath gv (vpos gt xr 10) from pay11_eq _]
    exact Cert.Search.gath_vpos gt gv xr l
  · rw [store_off k g _ j h]
    refine hg j ?_
    rw [mem_lanes] at h
    omega

set_option maxHeartbeats 4000000 in
/-- One trip: sixteen searches. -/
theorem trip (gt gv : S1024.Idx → F .f32) (gx : S16384.Idx → F .f32) (k : Fin k0_t2_loop.trips) (a : Unit) :
    inv2 d L gt gv gx k.val a
      ⊢ wp frame (wpE (defs₀ (F := F)) 𝒱₀ (V d (cV L) (jV L)) none) Set.univ
          (k0_t2_body L xV (Memref.isWhole_whole _) tV (Memref.isWhole_whole _) vV (Memref.isWhole_whole _) oV (Memref.isWhole_whole _)
            bT (Memref.isWhole_whole _) bV (Memref.isWhole_whole _) bX (Memref.isWhole_whole _) bO (Memref.isWhole_whole _)
            cc0_scratch4 cc0_scoped0 cc0_scoped1 cc0_scoped2 cc0_scoped3 k a)
          (inv2 d L gt gv gx (k.val + 1)) := by
  unfold k0_t2_body
  simp only [k0_part1_eq_skeleton]
  unfold k0_part1_skel
  simp only [Prog.lift, Prog.bind_assoc, Prog.bind_op, Prog.bind_ret, Prog.pure_eq_ret]
  unfold inv2
  iintro ⟨HT, HV, HX, %g, %hg, HO⟩
  iapply (wp_load_rect 𝒱₀ (V d (cV L) (jV L)) none Set.univ (m := bX)
    (r := Rect.unit (s := S16384) (k0_off2 k) S16.size (k0_off2_inb k)) (S := Finset.univ) (q := fullShare) (f := gx) (Finset.subset_univ _)) $$ HX
  iintro HX
  generalize hxr : View.read (Elt F) ((bX).access (Rect.unit (s := S16384) (k0_off2 k) S16.size (k0_off2_inb k))) gx = xr
  rw [prb0 gt xr, wp_assume_of _ _ _ _ (ck1 gt (k0_pay11 xr))]
  iapply (wp_gath_bT d L gt) $$ HT
  iintro HT
  rw [prb1 gt xr, wp_assume_of _ _ _ _ (ck2 gt (k0_pay11 xr))]
  iapply (wp_gath_bT d L gt) $$ HT
  iintro HT
  rw [prb2 gt xr, wp_assume_of _ _ _ _ (ck3 gt (k0_pay11 xr))]
  iapply (wp_gath_bT d L gt) $$ HT
  iintro HT
  rw [prb3 gt xr, wp_assume_of _ _ _ _ (ck4 gt (k0_pay11 xr))]
  iapply (wp_gath_bT d L gt) $$ HT
  iintro HT
  rw [prb4 gt xr, wp_assume_of _ _ _ _ (ck5 gt (k0_pay11 xr))]
  iapply (wp_gath_bT d L gt) $$ HT
  iintro HT
  rw [prb5 gt xr, wp_assume_of _ _ _ _ (ck6 gt (k0_pay11 xr))]
  iapply (wp_gath_bT d L gt) $$ HT
  iintro HT
  rw [prb6 gt xr, wp_assume_of _ _ _ _ (ck7 gt (k0_pay11 xr))]
  iapply (wp_gath_bT d L gt) $$ HT
  iintro HT
  rw [prb7 gt xr, wp_assume_of _ _ _ _ (ck8 gt (k0_pay11 xr))]
  iapply (wp_gath_bT d L gt) $$ HT
  iintro HT
  rw [prb8 gt xr, wp_assume_of _ _ _ _ (ck9 gt (k0_pay11 xr))]
  iapply (wp_gath_bT d L gt) $$ HT
  iintro HT
  rw [prb9 gt xr, wp_assume_of _ _ _ _ (ck10 gt (k0_pay11 xr))]
  iapply (wp_gath_bT d L gt) $$ HT
  iintro HT
  rw [pos10 gt xr, wp_assume_of _ _ _ _ (ck11 gt (k0_pay11 xr))]
  iapply (wp_gath_bV d L gv) $$ HV
  iintro HV
  iapply (wp_load_rect 𝒱₀ (V d (cV L) (jV L)) none Set.univ (m := bO) (r := lanes k) (S := Finset.univ) (q := fullShare) (f := g) (Finset.subset_univ _)) $$ HO
  iintro HO
  iapply (wp_store 𝒱₀ (V d (cV L) (jV L)) none Set.univ (m := bO) (r := lanes k) (Mk := Finset.univ) (S := Finset.univ) (f := g) (Finset.subset_univ _)) $$ HO
  iintro HO
  rw [wp_ret]; imodintro
  isplitl [HT]; · iexact HT
  isplitl [HV]; · iexact HV
  isplitl [HX]; · iexact HX
  iexists _
  isplitr
  swap; · iexact HO
  ipureintro
  exact trip_val gt gv gx g k hg xr (fun l => by rw [← hxr]; exact load_at k gx l)

/-! ## A chunk -/

/-- Chunk `t` of `x`, as the tile's memory holds it after the fetch. -/
abbrev xchunk (fx : S16777216.Idx → F .f32) (t : Fin k0_t1_loop.trips) : S16384.Idx → F .f32 := (xC L t).view.read (Elt F) fx

theorem xchunk_at (fx : S16777216.Idx → F .f32) (t : Fin k0_t1_loop.trips) (l : (chunk L t).shape.Idx) :
    xchunk L fx t l = fx ((chunk L t).emb l) := rfl

/-- The write-out of a chunk: its words are the outgoing chunk's, -/
theorem out_at (t : Fin k0_t1_loop.trips) (f : S16777216.Idx → F .f32) (w : (chunk L t).shape.Idx → F .f32) (l : (chunk L t).shape.Idx) :
    (oC L t).view.write (Elt F) f w Finset.univ ((chunk L t).emb l) = w l :=
  (View.write_emb_of_mem (v := (oC L t).view) (Val := Elt F) f w (Finset.mem_univ l)).trans (cast_eq _ _)
theorem set_oC (t : Fin k0_t1_loop.trips) : (oC L t).view.set = (chunk L t).set :=
  View.set_slice_whole (main_v2_scv : Ref sig .scVector) (chunk L t)
/-- and every other word of the result stays. -/
theorem out_off (t : Fin k0_t1_loop.trips) (f : S16777216.Idx → F .f32) (w : (chunk L t).shape.Idx → F .f32) (j : S16777216.Idx)
    (h : j ∉ (chunk L t).set) : (oC L t).view.write (Elt F) f w Finset.univ j = f j :=
  View.write_of_not_mem (v := (oC L t).view) (Val := Elt F) f w Finset.univ (by
    rw [View.setOn_univ]; intro h'; exact h (by rw [← set_oC L t]; exact h'))

/-- One chunk on: sixteen thousand three hundred and eighty-four more words of the tile's part at their results. -/
theorem chunk_val (fx : S16777216.Idx → F .f32) (ft fv : S1024.Idx → F .f32) (f : S16777216.Idx → F .f32) (t : Fin k0_t1_loop.trips)
    (hf : ∀ j ∈ slab (wid L), (j 0).val < 524288 * wid L + 16384 * t.val → f j = result fx ft fv j)
    (g : S16384.Idx → F .f32) (hg : ∀ j : S16384.Idx, g j = look ft fv (xchunk L fx t j))
    (j : S16777216.Idx) (hs : j ∈ slab (wid L)) (hj : (j 0).val < 524288 * wid L + 16384 * (t.val + 1)) :
    (oC L t).view.write (Elt F) f g Finset.univ j = result fx ft fv j := by
  by_cases h : j ∈ (chunk L t).set
  · rw [← Rect.map_emb_univ] at h
    obtain ⟨l, -, rfl⟩ := Finset.mem_map.mp h
    rw [out_at]
    exact hg l
  · rw [out_off L t f _ j h]
    refine hf j hs ?_
    rw [mem_chunk] at h
    omega

/-- The tile's share of `x`: the chunk's part of it, and the rest. -/
theorem x_split (t : Fin k0_t1_loop.trips) (q : PosShare TreeShare) (fx : S16777216.Idx → F .f32) :
    ((xV).view.loc (V d (cV L) (jV L)) ↦{q} fx : sProp 𝕄)
      ⊣⊢ iprop(((xC L t).view.loc (V d (cV L) (jV L)) ↦[(xC L t).view.set]{q} fx)
          ∗ (xV).view.loc (V d (cV L) (jV L)) ↦[Finset.univ \ (xC L t).view.set]{q} fx) :=
  pointsTo_split_subset (Finset.subset_univ (xC L t).view.set)

abbrev semB (d : Dev nD) (L : grid0.Coords) : GSem nD τ sig := (V d (cV L) (jV L), .dma cc0_scoped0.sem)
abbrev semV (d : Dev nD) (L : grid0.Coords) : GSem nD τ sig := (V d (cV L) (jV L), .dma cc0_scoped1.sem)
abbrev semX (d : Dev nD) (L : grid0.Coords) : GSem nD τ sig := (V d (cV L) (jV L), .dma cc0_scoped2.sem)
abbrev semO (d : Dev nD) (L : grid0.Coords) : GSem nD τ sig := (V d (cV L) (jV L), .dma cc0_scoped3.sem)

/-- Before chunk `t`: the tile's share of `x`; the tables in its memory; its two chunk buffers at something; its part of
    the result, the chunks before `t` at their results; its two chunk semaphores at zero; what it owes, and that its own
    waits are allowed. -/
def inv1 (q : PosShare TreeShare) (fx : S16777216.Idx → F .f32) (ft fv : S1024.Idx → F .f32)
    (O : CellTallies nD τ sig (HIx 1)) (W : Waits sig (HIx 1)) (t : ℕ) (_ : Unit) : sProp 𝕄 :=
  iprop(levAts (K (F := F)).L (K (F := F)).lev
    ∗ ((xV).view.loc (V d (cV L) (jV L)) ↦{q} fx)
    ∗ ((bT).view.loc (V d (cV L) (jV L)) ↦{fullShare} ft) ∗ ((bV).view.loc (V d (cV L) (jV L)) ↦{fullShare} fv)
    ∗ (∃ gx, (bX).view.loc (V d (cV L) (jV L)) ↦{fullShare} gx) ∗ (∃ g, (bO).view.loc (V d (cV L) (jV L)) ↦{fullShare} g)
    ∗ (∃ f : S16777216.Idx → F .f32, ⌜∀ j ∈ slab (wid L), (j 0).val < 524288 * wid L + 16384 * t → f j = result fx ft fv j⌝
        ∗ (oV).view.loc (V d (cV L) (jV L)) ↦[slab (wid L)]{fullShare} f)
    ∗ semVal (semX d L) 0 ∗ semVal (semO d L) 0
    ∗ ∃ W', ⌜∀ p ∈ W', p ∈ W ∨ p.2 = none⌝ ∗ owes (V d (cV L) (jV L)) O W')

set_option maxHeartbeats 4000000 in
/-- One chunk: its fetch, its searches, its write-out. -/
theorem chunk_body (q : PosShare TreeShare) (fx : S16777216.Idx → F .f32) (ft fv : S1024.Idx → F .f32)
    (O : CellTallies nD τ sig (HIx 1)) (W : Waits sig (HIx 1)) (hO : ∀ g, O g none = 0) (t : Fin k0_t1_loop.trips) (a : Unit) :
    inv1 d L q fx ft fv O W t.val a
      ⊢ wp frame (wpE (defs₀ (F := F)) 𝒱₀ (V d (cV L) (jV L)) none) Set.univ
          (k0_t1_body L xV (Memref.isWhole_whole _) tV (Memref.isWhole_whole _) vV (Memref.isWhole_whole _) oV (Memref.isWhole_whole _)
            bT (Memref.isWhole_whole _) bV (Memref.isWhole_whole _) bX (Memref.isWhole_whole _) bO (Memref.isWhole_whole _)
            cc0_scratch4 cc0_scoped0 cc0_scoped1 cc0_scoped2 cc0_scoped3 t a)
          (inv1 d L q fx ft fv O W (t.val + 1)) := by
  unfold k0_t1_body
  simp only [Prog.lift, Prog.bind_op, Prog.bind_ret, Prog.pure_eq_ret]
  unfold inv1
  iintro ⟨#Hlv, Hx, HT, HV, ⟨%gx, HX⟩, ⟨%g, HO⟩, ⟨%f, %hf, Ho⟩, HsX, HsO, ⟨%W', %hW', Hw⟩⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the fetch
  ihave Hxs := (x_split d L t q fx).1 $$ Hx
  icases Hxs with ⟨Hxc, Hxr⟩
  iapply (Transfers.wp_dmaLocal countersEmb 𝒱₀ (V d (cV L) (jV L)) none (src := xC L t) (via := .same) (dst := bX) (sm := .dma cc0_scoped2.sem)
      (q := q) (fs := fx) (Sd := Finset.univ) (fd := gx) (default : HIx 1) _ rfl (View.amount_pos _ _ (show 0 < S16384.numel by decide)) (Finset.subset_univ _)) $$ [Hxc HX HsX]
  · isplitl [Hxc]; · iexact Hxc
    isplitl [HX]; · iexact HX
    iexact HsX
  iintro Hfl
  -- its wait
  iapply (Transfers.wp_waitLocalO countersEmb 𝒱₀ (V d (cV L) (jV L)) none (default : HIx 1) (rfl : (bX).view.dmaCredit = _)) $$ [Hfl Hw]
  · isplitl [Hfl]; · iexact Hfl
    isplitl [Hw]; · iexact Hw
    iapply (Transfers.MayWaits.elim (SemLoc.dma cc0_scoped2.sem)) $$ Hmw
  iintro ⟨⟨HX, Hxc⟩, HsX, Hw⟩
  ihave Hx := (x_split d L t q fx).2 $$ [Hxc Hxr]
  · isplitl [Hxc] <;> iassumption
  ihave HX' := (Entails.of_eq (congrArg (fun h => ((bX).view.loc (V d (cV L) (jV L)) ↦{fullShare} h : sProp 𝕄))
    (View.write_whole_univ (Val := Elt F) (cc0_scratch2 : Ref sig .scVector) gx (xchunk L fx t)))) $$ HX
  -- the searches
  iapply (Scf.wp_for_bind _ _ _ _ _ _ _ _ _ (inv2 d L ft fv (xchunk L fx t)) (trip d L ft fv (xchunk L fx t))) $$ [HT HV HX' HO]
  · unfold inv2
    isplitl [HT]; · iexact HT
    isplitl [HV]; · iexact HV
    isplitl [HX']; · iexact HX'
    iexists g
    isplitr
    · ipureintro; intro j hj; exact absurd hj (by omega)
    · iexact HO
  iintro %a' H2
  unfold inv2
  icases H2 with ⟨HT, HV, HX, %g', %hg', HO⟩
  have hg2 : ∀ j : S16384.Idx, g' j = look ft fv (xchunk L fx t j) := fun j => hg' j (by
    have h1 := (j 0).isLt
    have h2 : S16384.size 0 = 16384 := rfl
    have h3 : k0_t2_loop.trips = 1024 := trips2
    change (j 0).val < 16 * k0_t2_loop.trips
    omega)
  -- the write-out
  iapply (Transfers.wp_dmaLocal countersEmb 𝒱₀ (V d (cV L) (jV L)) none (src := bO) (via := .same) (dst := oC L t) (sm := .dma cc0_scoped3.sem)
      (q := fullShare) (fs := g') (Sd := slab (wid L)) (fd := f) (default : HIx 1) _ rfl (View.amount_pos _ _ (show 0 < S16384.numel by decide))
      ((set_oC L t).trans_subset (chunk_subset L t))) $$ [HO Ho HsO]
  · isplitl [HO]
    · rw [show (bO).view.set = Finset.univ from View.set_whole _]; iexact HO
    isplitl [Ho]; · iexact Ho
    iexact HsO
  iintro Hfl
  iapply (Transfers.wp_waitLocalO countersEmb 𝒱₀ (V d (cV L) (jV L)) none (default : HIx 1) (rfl : (oC L t).view.dmaCredit = _)) $$ [Hfl Hw]
  · isplitl [Hfl]; · iexact Hfl
    isplitl [Hw]; · iexact Hw
    iapply (Transfers.MayWaits.elim (SemLoc.dma cc0_scoped3.sem)) $$ Hmw
  iintro ⟨⟨Ho, HO⟩, HsO, Hw⟩
  rw [wp_ret]; imodintro
  isplitr; · iexact Hlv
  isplitl [Hx]; · iexact Hx
  isplitl [HT]; · iexact HT
  isplitl [HV]; · iexact HV
  isplitl [HX]; · iexists _; iexact HX
  isplitl [HO]
  · iexists g'
    rw [show (bO).view.set = Finset.univ from View.set_whole _]; iexact HO
  isplitl [Ho]
  · iexists _
    isplitr
    swap; · iexact Ho
    ipureintro
    intro j hs hj
    exact chunk_val L fx ft fv f t hf g' hg2 j hs hj
  isplitl [HsX]; · iexact HsX
  isplitl [HsO]; · iexact HsO
  iexists _; isplitr
  swap; · iexact Hw
  ipureintro; intro p hp
  rcases Finset.mem_insert.mp hp with hp | hp; · exact .inr (hp ▸ rfl)
  rcases Finset.mem_insert.mp hp with hp | hp; · exact .inr (hp ▸ rfl)
  exact hW' p hp

/-! ## The tile's run -/

omit [FloatOps F] in
theorem cell_ne {a b : SemLoc sig} (h : a ≠ b) : ((V d (cV L) (jV L), a) : GSem nD τ sig) ≠ (V d (cV L) (jV L), b) :=
  fun e => h (Prod.mk.inj e).2

omit [FloatOps F] in
/-- The four transfer semaphores are among the subcore's own. -/
theorem ownSems0_V :
    (ownSems0 (V d (cV L) (jV L)) : sProp 𝕄)
      = iprop(semVal (semB d L) 0 ∗ semVal (semV d L) 0 ∗ semVal (semX d L) 0 ∗ semVal (semO d L) 0
          ∗ bigSep (((((ownCells (V d (cV L) (jV L))).erase (semB d L)).erase (semV d L)).erase (semX d L)).erase (semO d L)) fun g => semVal g 0) := by
  unfold SparseCore.Cfg.ownSems0
  rw [SparseCore.bigSep_erase' ((mem_ownCells (g := semB d L)).mpr ⟨rfl, by show (SemLoc.dma cc0_scoped0.sem : SemLoc sig).isScoped .scVector = true; decide⟩),
    SparseCore.bigSep_erase' (Finset.mem_erase.mpr ⟨cell_ne d L (show (SemLoc.dma cc0_scoped1.sem : SemLoc sig) ≠ .dma cc0_scoped0.sem by decide), (mem_ownCells (g := semV d L)).mpr ⟨rfl, by show (SemLoc.dma cc0_scoped1.sem : SemLoc sig).isScoped .scVector = true; decide⟩⟩),
    SparseCore.bigSep_erase' (Finset.mem_erase.mpr ⟨cell_ne d L (show (SemLoc.dma cc0_scoped2.sem : SemLoc sig) ≠ .dma cc0_scoped1.sem by decide), Finset.mem_erase.mpr ⟨cell_ne d L (show (SemLoc.dma cc0_scoped2.sem : SemLoc sig) ≠ .dma cc0_scoped0.sem by decide), (mem_ownCells (g := semX d L)).mpr ⟨rfl, by show (SemLoc.dma cc0_scoped2.sem : SemLoc sig).isScoped .scVector = true; decide⟩⟩⟩),
    SparseCore.bigSep_erase' (Finset.mem_erase.mpr ⟨cell_ne d L (show (SemLoc.dma cc0_scoped3.sem : SemLoc sig) ≠ .dma cc0_scoped2.sem by decide), Finset.mem_erase.mpr ⟨cell_ne d L (show (SemLoc.dma cc0_scoped3.sem : SemLoc sig) ≠ .dma cc0_scoped1.sem by decide), Finset.mem_erase.mpr ⟨cell_ne d L (show (SemLoc.dma cc0_scoped3.sem : SemLoc sig) ≠ .dma cc0_scoped0.sem by decide), (mem_ownCells (g := semO d L)).mpr ⟨rfl, by show (SemLoc.dma cc0_scoped3.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

/-- What a table's fetch leaves in the tile's memory is the table. -/
theorem landed_bT (g f : S1024.Idx → F .f32) :
    (bT).view.write (Elt F) g (ReadAs.same.apply ((tV).view.read (Elt F) f)) Finset.univ = f :=
  View.write_whole_univ (Val := Elt F) (cc0_scratch0 : Ref sig .scVector) g f
theorem landed_bV (g f : S1024.Idx → F .f32) :
    (bV).view.write (Elt F) g (ReadAs.same.apply ((vV).view.read (Elt F) f)) Finset.univ = f :=
  View.write_whole_univ (Val := Elt F) (cc0_scratch1 : Ref sig .scVector) g f

/-- What a tile is handed and hands back: a share `q` of `x` and of both tables, and part `w` of the result. -/
abbrev part (q : PosShare TreeShare) (w : ℕ) (fx : S16777216.Idx → F .f32) (ft fv : S1024.Idx → F .f32) (f : S16777216.Idx → F .f32) : sProp 𝕄 :=
  iprop((xLoc d ↦{q} fx) ∗ (tLoc d ↦{q} ft) ∗ (vLoc d ↦{q} fv) ∗ oLoc d ↦[slab w]{fullShare} f)

set_option maxHeartbeats 4000000 in
/-- The tile's run: from its part of the result at anything to its part at the results, everything else as it was. -/
theorem tile_body (hF : (K (F := F)).Facts) (q : PosShare TreeShare) (fx : S16777216.Idx → F .f32) (ft fv : S1024.Idx → F .f32)
    (f₀ : S16777216.Idx → F .f32) (O : CellTallies nD τ sig (HIx 1)) (W : Waits sig (HIx 1)) (hO : ∀ g, O g none = 0) :
    iprop(levAts (K (F := F)).L (K (F := F)).lev ∗ emp ∗ part d q (wid L) fx ft fv f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__tec_body L xV (Memref.isWhole_whole _) tV (Memref.isWhole_whole _) vV (Memref.isWhole_whole _) oV (Memref.isWhole_whole _)
            bT (Memref.isWhole_whole _) bV (Memref.isWhole_whole _) bX (Memref.isWhole_whole _) bO (Memref.isWhole_whole _)
            cc0_scratch4 cc0_scoped0 cc0_scoped1 cc0_scoped2 cc0_scoped3)
          fun _ => iprop(part d q (wid L) fx ft fv (result fx ft fv)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__tec_body_eq_skeleton]; unfold cc0__tec_body_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨#Hlv, -, ⟨Hx, Ht, Hv, Ho⟩, ⟨⟨%gt, HT⟩, ⟨%gv, HV⟩, ⟨%gx, HX⟩, ⟨%g, HO⟩, Hbufs⟩, ⟨HsB, HsV, HsX, HsO, Hsems⟩, Hw⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the boundaries
  iapply (Transfers.wp_dmaLocal countersEmb 𝒱₀ (V d (cV L) (jV L)) none (src := tV) (via := .same) (dst := bT) (sm := .dma cc0_scoped0.sem)
      (q := q) (fs := ft) (Sd := Finset.univ) (fd := gt) (default : HIx 1) _ rfl (View.amount_pos _ _ (show 0 < S1024.numel by decide)) (Finset.subset_univ _)) $$ [Ht HT HsB]
  · isplitl [Ht]
    · rw [show (tV).view.set = Finset.univ from View.set_whole _]; iexact Ht
    isplitl [HT]; · iexact HT
    iexact HsB
  iintro Hfl
  iapply (Transfers.wp_waitLocalO countersEmb 𝒱₀ (V d (cV L) (jV L)) none (default : HIx 1) (rfl : (bT).view.dmaCredit = _)) $$ [Hfl Hw]
  · isplitl [Hfl]; · iexact Hfl
    isplitl [Hw]; · iexact Hw
    iapply (Transfers.MayWaits.elim (SemLoc.dma cc0_scoped0.sem)) $$ Hmw
  iintro ⟨⟨HT, Ht⟩, HsB, Hw⟩
  ihave HT' := (Entails.of_eq (congrArg (fun h => ((bT).view.loc (V d (cV L) (jV L)) ↦{fullShare} h : sProp 𝕄))
    (landed_bT gt ft))) $$ HT
  -- the values
  iapply (Transfers.wp_dmaLocal countersEmb 𝒱₀ (V d (cV L) (jV L)) none (src := vV) (via := .same) (dst := bV) (sm := .dma cc0_scoped1.sem)
      (q := q) (fs := fv) (Sd := Finset.univ) (fd := gv) (default : HIx 1) _ rfl (View.amount_pos _ _ (show 0 < S1024.numel by decide)) (Finset.subset_univ _)) $$ [Hv HV HsV]
  · isplitl [Hv]
    · rw [show (vV).view.set = Finset.univ from View.set_whole _]; iexact Hv
    isplitl [HV]; · iexact HV
    iexact HsV
  iintro Hfl
  iapply (Transfers.wp_waitLocalO countersEmb 𝒱₀ (V d (cV L) (jV L)) none (default : HIx 1) (rfl : (bV).view.dmaCredit = _)) $$ [Hfl Hw]
  · isplitl [Hfl]; · iexact Hfl
    isplitl [Hw]; · iexact Hw
    iapply (Transfers.MayWaits.elim (SemLoc.dma cc0_scoped1.sem)) $$ Hmw
  iintro ⟨⟨HV, Hv⟩, HsV, Hw⟩
  ihave HV' := (Entails.of_eq (congrArg (fun h => ((bV).view.loc (V d (cV L) (jV L)) ↦{fullShare} h : sProp 𝕄))
    (landed_bV gv fv))) $$ HV
  -- the chunks
  iapply (Scf.wp_for_bind _ _ _ _ _ _ _ _ _ (inv1 d L q fx ft fv O W) (chunk_body d L q fx ft fv O W hO)) $$ [Hx HT' HV' HX HO Ho HsX HsO Hw]
  · unfold inv1
    isplitr; · iexact Hlv
    isplitl [Hx]; · iexact Hx
    isplitl [HT']; · iexact HT'
    isplitl [HV']; · iexact HV'
    isplitl [HX]; · iexists gx; iexact HX
    isplitl [HO]; · iexists g; iexact HO
    isplitl [Ho]
    · iexists f₀; isplitr
      · ipureintro; intro j hs hj
        rw [mem_slab] at hs
        exact absurd hj (by omega)
      · iexact Ho
    isplitl [HsX]; · iexact HsX
    isplitl [HsO]; · iexact HsO
    iexists _; isplitr
    swap; · iexact Hw
    ipureintro; intro p hp
    rcases Finset.mem_insert.mp hp with hp | hp; · exact .inr (hp ▸ rfl)
    rcases Finset.mem_insert.mp hp with hp | hp; · exact .inr (hp ▸ rfl)
    exact .inl hp
  iintro %a' H1
  unfold inv1
  icases H1 with ⟨-, Hx, HT, HV, ⟨%gx', HX⟩, ⟨%g', HO⟩, ⟨%f, %hf, Ho⟩, HsX, HsO, ⟨%W', %hW', Hw⟩⟩
  have hf' : ∀ j ∈ slab (wid L), f j = result fx ft fv j := fun j hs => hf j hs (by
    have h := mem_slab.mp hs
    have h3 : k0_t1_loop.trips = 32 := trips1
    change (j 0).val < 524288 * wid L + 16384 * k0_t1_loop.trips
    omega)
  ihave Ho' := (Entails.of_eq (pointsTo_congr (ℓ := oLoc d) (q := fullShare) (Val := Elt F) hf')) $$ Ho
  rw [wp_ret]; imodintro
  isplitl [Hx Ht Hv Ho']
  · isplitl [Hx]; · iexact Hx
    isplitl [Ht]
    · rw [show (tV).view.set = Finset.univ from View.set_whole _]; iexact Ht
    isplitl [Hv]
    · rw [show (vV).view.set = Finset.univ from View.set_whole _]; iexact Hv
    iexact Ho'
  isplitl [HT HV HX HO Hbufs]
  · isplitl [HT]; · iexists _; iexact HT
    isplitl [HV]; · iexists _; iexact HV
    isplitl [HX]; · iexists _; iexact HX
    isplitl [HO]; · iexists _; iexact HO
    iexact Hbufs
  isplitl [HsB HsV HsX HsO Hsems]
  · isplitl [HsB]; · iexact HsB
    isplitl [HsV]; · iexact HsV
    isplitl [HsX]; · iexact HsX
    isplitl [HsO]; · iexact HsO
    iexact Hsems
  iexists W'; isplitr
  · ipureintro; exact hW'
  · iexact Hw

end Body

end Cert.Proof.TileIdeal

end
-- ==== Proof.LaunchIdeal.lean ====
/-
  The program's run on every device: the padding of the boundaries on the TensorCore, the call that deals `x`, the two
  tables and the result out to thirty-two tiles (TileIdeal.lean), and the joined result. `run_main`: every execution ends with the
  result at the searches' words (`R`), the three arguments unchanged and every semaphore at zero.
-/
module

public import proofs.«01_k».proof.Proof.TileIdeal

@[expose] public section

noncomputable section

namespace Cert.Proof.TileIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev bLoc (d : Dev nD) : Loc nD τ sig := (SparseCore.T d).loc main_arg1

/-! ## The result's indices, by core and by tile -/

/-- The part of the result that core `c`'s tiles write. -/
def coreSet (c : ℕ) : Finset S16777216.Idx := Finset.univ.filter fun j => (j 0).val / 524288 % 2 = c

theorem lt_size (j : S16777216.Idx) : (j 0).val < 16777216 := (j 0).isLt

theorem slabs_disjoint (c : ℕ) : ∀ i ∈ (Finset.univ : Finset (Fin 16)), ∀ k ∈ (Finset.univ : Finset (Fin 16)), i ≠ k →
    Disjoint (slab (2 * i.val + c)) (slab (2 * k.val + c)) := by
  intro i _ k _ h
  rw [Finset.disjoint_left]
  intro j hi hk
  rw [mem_slab] at hi hk
  exact h (Fin.ext (by omega))

theorem slabs_cover (c : Fin 2) : ((Finset.univ : Finset (Fin 16)).biUnion fun i => slab (2 * i.val + c.val)) = coreSet c.val := by
  ext j
  have hj := lt_size j
  have hc := c.isLt
  simp only [Finset.mem_biUnion, Finset.mem_univ, true_and, mem_slab, coreSet, Finset.mem_filter]
  constructor
  · rintro ⟨i, hi⟩; omega
  · intro h
    exact ⟨⟨(j 0).val / 524288 / 2, by omega⟩, by show _ = 2 * ((j 0).val / 524288 / 2) + c.val; omega⟩

theorem cores_disjoint : ∀ i ∈ (Finset.univ : Finset (Fin 2)), ∀ k ∈ (Finset.univ : Finset (Fin 2)), i ≠ k →
    Disjoint (coreSet i.val) (coreSet k.val) := by
  intro i _ k _ h
  rw [Finset.disjoint_left]
  intro j hi hk
  simp only [coreSet, Finset.mem_filter, Finset.mem_univ, true_and] at hi hk
  exact h (Fin.ext (by omega))

theorem cores_cover : ((Finset.univ : Finset (Fin 2)).biUnion fun c => coreSet c.val) = Finset.univ := by
  ext j
  simp only [Finset.mem_biUnion, Finset.mem_univ, true_and, coreSet, Finset.mem_filter, iff_true]
  exact ⟨⟨(j 0).val / 524288 % 2, by omega⟩, rfl⟩

/-! ## The deal -/

/-- Core `c`'s read share of `x` and of the tables, and its tile `i`'s. -/
abbrev cq (c : Fin 2) : PosShare TreeShare := Transfers.dealOf fullShare Finset.univ c
abbrev tq (c : Fin 2) (i : Fin 16) : PosShare TreeShare := Transfers.dealOf (cq c) Finset.univ i

variable [FloatOps F]

/-- What a core is handed: its share of `x` and of the tables, and its part of the result. -/
abbrev corePart (d : Dev nD) (c : Fin 2) (fx : S16777216.Idx → F .f32) (ft fv : S1024.Idx → F .f32) (f : S16777216.Idx → F .f32) : sProp 𝕄 :=
  iprop((xLoc d ↦{cq c} fx) ∗ (tLoc d ↦{cq c} ft) ∗ (vLoc d ↦{cq c} fv) ∗ oLoc d ↦[coreSet c.val]{fullShare} f)
/-- What the call is handed: all of them. -/
abbrev allParts (d : Dev nD) (fx : S16777216.Idx → F .f32) (ft fv : S1024.Idx → F .f32) (f : S16777216.Idx → F .f32) : sProp 𝕄 :=
  iprop((xLoc d ↦{fullShare} fx) ∗ (tLoc d ↦{fullShare} ft) ∗ (vLoc d ↦{fullShare} fv) ∗ oLoc d ↦{fullShare} f)

theorem core_split (d : Dev nD) (c : Fin 2) (fx : S16777216.Idx → F .f32) (ft fv : S1024.Idx → F .f32) (f : S16777216.Idx → F .f32) :
    corePart d c fx ft fv f = bigSep Finset.univ fun i : Fin 16 => part d (tq c i) (2 * i.val + c.val) fx ft fv f := by
  rw [bigSep_sep', bigSep_sep', bigSep_sep']
  unfold corePart
  rw [← pointsTo_biUnion Finset.univ (ℓ := oLoc d) (fun i : Fin 16 => slab (2 * i.val + c.val)) (slabs_disjoint c.val), slabs_cover,
    ← Transfers.pointsTo_deal (ℓ := xLoc d) (Finset.univ : Finset (Fin 16)) Finset.univ_nonempty (cq c),
    ← Transfers.pointsTo_deal (ℓ := tLoc d) (Finset.univ : Finset (Fin 16)) Finset.univ_nonempty (cq c),
    ← Transfers.pointsTo_deal (ℓ := vLoc d) (Finset.univ : Finset (Fin 16)) Finset.univ_nonempty (cq c)]

theorem all_split (d : Dev nD) (fx : S16777216.Idx → F .f32) (ft fv : S1024.Idx → F .f32) (f : S16777216.Idx → F .f32) :
    allParts d fx ft fv f = bigSep Finset.univ fun c : Fin 2 => corePart d c fx ft fv f := by
  rw [bigSep_sep', bigSep_sep', bigSep_sep']
  unfold allParts
  rw [← pointsTo_biUnion Finset.univ (ℓ := oLoc d) (fun c : Fin 2 => coreSet c.val) cores_disjoint, cores_cover,
    ← Transfers.pointsTo_deal (ℓ := xLoc d) (Finset.univ : Finset (Fin 2)) Finset.univ_nonempty fullShare,
    ← Transfers.pointsTo_deal (ℓ := tLoc d) (Finset.univ : Finset (Fin 2)) Finset.univ_nonempty fullShare,
    ← Transfers.pointsTo_deal (ℓ := vLoc d) (Finset.univ : Finset (Fin 2)) Finset.univ_nonempty fullShare]

/-! ## What the handshakes carry -/

/-- The boundaries padded to 1024 words with one infinite word, as the program pads them. -/
def pad (b : S1023.Idx → F .f32) : S1024.Idx → F .f32 :=
  concatenate S1024 0 [⟨S1023, b⟩, ⟨S1, broadcastInDim S1 ![] bcast_S_S1 (constant S_ .f32 0x7F800000#32)⟩] concatenates_S1023_S1_S1024_d0

/-- What the program computes on device `d`. -/
def R (d : Dev nD) : S16777216.Idx → F .f32 := result (m (xLoc d)) (pad (m (bLoc d))) (m (vLoc d))

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => corePart d (Fin.cast nCore_zero c) (m (xLoc d)) (pad (m (bLoc d))) (m (vLoc d)) (m (oLoc d))
  dn := fun q d c => match q with | 0 => corePart d (Fin.cast nCore_zero c) (m (xLoc d)) (pad (m (bLoc d))) (m (vLoc d)) (R m d)
  go := fun q d c i => match q with
    | 0 => part d (tq (Fin.cast nCore_zero c) (Fin.cast nSub_zero i)) (2 * i.val + c.val) (m (xLoc d)) (pad (m (bLoc d))) (m (vLoc d)) (m (oLoc d))
  td := fun q d c i => match q with
    | 0 => part d (tq (Fin.cast nCore_zero c) (Fin.cast nSub_zero i)) (2 * i.val + c.val) (m (xLoc d)) (pad (m (bLoc d))) (m (vLoc d)) (R m d)
  x := fun _ _ => iprop(emp)

instance P_storable : (P (F := F) m).IsStorable where
  st q d c := match q with
    | 0 => (inferInstance : BI.Storable (upEmb : UEmb _ 𝕄) (corePart d (Fin.cast nCore_zero c) (m (xLoc d)) (pad (m (bLoc d))) (m (vLoc d)) (m (oLoc d))))
  dn q d c := match q with
    | 0 => (inferInstance : BI.Storable (upEmb : UEmb _ 𝕄) (corePart d (Fin.cast nCore_zero c) (m (xLoc d)) (pad (m (bLoc d))) (m (vLoc d)) (R m d)))
  go q d c i := match q with
    | 0 => (inferInstance : BI.Storable (upEmb : UEmb _ 𝕄)
      (part d (tq (Fin.cast nCore_zero c) (Fin.cast nSub_zero i)) (2 * i.val + c.val) (m (xLoc d)) (pad (m (bLoc d))) (m (vLoc d)) (m (oLoc d))))
  td q d c i := match q with
    | 0 => (inferInstance : BI.Storable (upEmb : UEmb _ 𝕄)
      (part d (tq (Fin.cast nCore_zero c) (Fin.cast nSub_zero i)) (2 * i.val + c.val) (m (xLoc d)) (pad (m (bLoc d))) (m (vLoc d)) (R m d)))

/-! ## The tiles' obligation and the split -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__tec_body (coordsV c s)
          (Memref.whole main_arg0_scv) (Memref.isWhole_whole _) (Memref.whole main_v1_scv) (Memref.isWhole_whole _)
          (Memref.whole main_arg2_scv) (Memref.isWhole_whole _) (Memref.whole main_v2_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tq (Fin.cast nCore_zero c) (Fin.cast nSub_zero i))
    (m (xLoc d)) (pad (m (bLoc d))) (m (vLoc d)) (m (oLoc d)) O W hO).trans (wp_mono frame _ _ fun _ => obl_post)

theorem vecSplit : (K (F := F)).VecSplit' (P m) 0 := by
  intro d c
  have hgo : (bigSep Finset.univ fun i : Fin ((K (F := F)).nSub 0) => (P m).go 0 d c i)
      = corePart d (Fin.cast nCore_zero c) (m (xLoc d)) (pad (m (bLoc d))) (m (vLoc d)) (m (oLoc d)) :=
    (core_split d (Fin.cast nCore_zero c) (m (xLoc d)) (pad (m (bLoc d))) (m (vLoc d)) (m (oLoc d))).symm
  have htd : (bigSep Finset.univ fun i : Fin ((K (F := F)).nSub 0) => (P m).td 0 d c i)
      = corePart d (Fin.cast nCore_zero c) (m (xLoc d)) (pad (m (bLoc d))) (m (vLoc d)) (R m d) :=
    (core_split d (Fin.cast nCore_zero c) (m (xLoc d)) (pad (m (bLoc d))) (m (vLoc d)) (R m d)).symm
  rw [hgo, htd]
  show corePart d (Fin.cast nCore_zero c) (m (xLoc d)) (pad (m (bLoc d))) (m (vLoc d)) (m (oLoc d)) ⊢ |={Set.univ}=> iprop(_ ∗ (_
    -∗ corePart d (Fin.cast nCore_zero c) (m (xLoc d)) (pad (m (bLoc d))) (m (vLoc d)) (R m d)))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev b' : DevRef τ sig := Proc.devRef .tc (main_arg1 : Ref sig .tc)
abbrev v' : DevRef τ sig := Proc.devRef .tc (main_arg2 : Ref sig .tc)
abbrev cst' : DevRef τ sig := Proc.devRef .tc (main_cst : Ref sig .tc)
abbrev w' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev opCst : HloOp τ sig (Elt F) := StableHlo.nullary main_cst (constant S_ .f32 0x7F800000#32)
abbrev opBc : HloOp τ sig (Elt F) := StableHlo.unary main_cst main_v0 (broadcastInDim S1 ![] bcast_S_S1)
abbrev opCat : HloOp τ sig (Elt F) := StableHlo.binary main_arg1 main_v0 main_v1 (fun a b => concatenate S1024 0 [⟨S1023, a⟩, ⟨S1, b⟩] concatenates_S1023_S1_S1024_d0)

/-- The TensorCore's arrays. -/
abbrev S7 : Finset (DevRef τ sig) := {x', b', v', cst', w', t', o'}

omit [FloatOps F] in
theorem held_S7 (d : Dev nD) (W : Valuation τ sig (Elt F)) :
    (held (T d) S7 W : sProp 𝕄)
      = iprop((xLoc d ↦{fullShare} W x') ∗ (bLoc d ↦{fullShare} W b') ∗ (vLoc d ↦{fullShare} W v')
          ∗ ((SparseCore.T d).loc main_cst ↦{fullShare} W cst') ∗ ((SparseCore.T d).loc main_v0 ↦{fullShare} W w')
          ∗ (tLoc d ↦{fullShare} W t') ∗ oLoc d ↦{fullShare} W o') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (bLoc d ↦{fullShare} W main_arg1) ∗ (vLoc d ↦{fullShare} W main_arg2)
          ∗ ((SparseCore.T d).loc main_cst ↦{fullShare} W main_cst) ∗ ((SparseCore.T d).loc main_v0 ↦{fullShare} W main_v0)
          ∗ (tLoc d ↦{fullShare} W main_v1) ∗ oLoc d ↦{fullShare} W main_v2) := by
  unfold unscopedBufs
  rw [show (Finset.univ.filter fun b : Ref sig .tc => ¬ b.isScoped) = {main_arg0, main_arg1, main_arg2, main_cst, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents, and the contents before the call. -/
def V0 (d : Dev nD) : Valuation τ sig (Elt F) := fun b => m (d, b)
def V3 (d : Dev nD) : Valuation τ sig (Elt F) := (opCat (F := F)).result ((opBc (F := F)).result ((opCst (F := F)).result (V0 m d)))

theorem unscoped_held (d : Dev nD) : (unscopedBufs d (fun b => m ((SparseCore.T d).loc b)) : sProp 𝕄) = held (T d) S7 (V0 m d) := by
  rw [unscopedBufs_eq, held_S7]; rfl

theorem V3_of_ne (d : Dev nD) (r : DevRef τ sig) (h1 : r ∉ ({t'} : Finset (DevRef τ sig))) (h2 : r ∉ ({w'} : Finset (DevRef τ sig)))
    (h3 : r ∉ ({cst'} : Finset (DevRef τ sig))) : V3 m d r = m (d, r) := by
  unfold V3
  rw [(opCat (F := F)).result_of_not_mem _ h1, (opBc (F := F)).result_of_not_mem _ h2, (opCst (F := F)).result_of_not_mem _ h3]
  rfl

theorem V3_t (d : Dev nD) : V3 m d t' = pad (m (bLoc d)) := by
  unfold V3
  refine (StableHlo.binary_result _ _ _ _ _ _ _ _).trans ?_
  rw [(opBc (F := F)).result_of_not_mem _ (show b' ∉ ({w'} : Finset (DevRef τ sig)) by decide),
    (opCst (F := F)).result_of_not_mem _ (show b' ∉ ({cst'} : Finset (DevRef τ sig)) by decide)]
  rw [show (opBc (F := F)).result ((opCst (F := F)).result (V0 m d)) w' = broadcastInDim S1 ![] bcast_S_S1 ((opCst (F := F)).result (V0 m d) cst') from
      StableHlo.unary_result _ _ _ _ _ _,
    show (opCst (F := F)).result (V0 m d) cst' = constant S_ .f32 0x7F800000#32 from StableHlo.nullary_result _ _ _ _]
  rfl

/-- The arrays before the call: the arguments as launched, the table padded. -/
theorem held_V3 (d : Dev nD) :
    (held (T d) S7 ((opCat (F := F)).result ((opBc (F := F)).result ((opCst (F := F)).result (V0 m d)))) : sProp 𝕄)
      = iprop((xLoc d ↦{fullShare} m (xLoc d)) ∗ (bLoc d ↦{fullShare} m (bLoc d)) ∗ (vLoc d ↦{fullShare} m (vLoc d))
          ∗ ((SparseCore.T d).loc main_cst ↦{fullShare} V3 m d cst') ∗ ((SparseCore.T d).loc main_v0 ↦{fullShare} V3 m d w')
          ∗ (tLoc d ↦{fullShare} pad (m (bLoc d))) ∗ oLoc d ↦{fullShare} m (oLoc d)) := by
  show held (SparseCore.T d) S7 (V3 m d) = _
  rw [held_S7, V3_t, V3_of_ne m d x' (by decide) (by decide) (by decide), V3_of_ne m d b' (by decide) (by decide) (by decide),
    V3_of_ne m d v' (by decide) (by decide) (by decide), V3_of_ne m d o' (by decide) (by decide) (by decide)]

theorem st0_eq (d : Dev nD) : (bigSep Finset.univ fun c : Fin ((K (F := F)).nCore 0) => (P m).st 0 d c)
    = allParts d (m (xLoc d)) (pad (m (bLoc d))) (m (vLoc d)) (m (oLoc d)) :=
  (all_split d (m (xLoc d)) (pad (m (bLoc d))) (m (vLoc d)) (m (oLoc d))).symm
theorem dn0_eq (d : Dev nD) : (bigSep Finset.univ fun c : Fin ((K (F := F)).nCore 0) => (P m).dn 0 d c)
    = allParts d (m (xLoc d)) (pad (m (bLoc d))) (m (vLoc d)) (R m d) :=
  (all_split d (m (xLoc d)) (pad (m (bLoc d))) (m (vLoc d)) (R m d)).symm

theorem hCst : (opCst (F := F)).bufs ⊆ S7 := show ({cst'} : Finset (DevRef τ sig)) ⊆ S7 by decide
theorem hBc : (opBc (F := F)).bufs ⊆ S7 := show ({cst', w'} : Finset (DevRef τ sig)) ⊆ S7 by decide
theorem hCat : (opCat (F := F)).bufs ⊆ S7 := show ({b', w', t'} : Finset (DevRef τ sig)) ⊆ S7 by decide

/-- What @main leaves the claims: the arguments as launched, the result at `R`. -/
abbrev FIN (d : Dev nD) : sProp 𝕄 :=
  iprop((xLoc d ↦{fullShare} m (xLoc d)) ∗ (bLoc d ↦{fullShare} m (bLoc d)) ∗ (vLoc d ↦{fullShare} m (vLoc d)) ∗ oLoc d ↦{fullShare} R m d)

/-- @main: the padding's three steps over the arrays held whole, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCst) (S := S7) hCst (V := V0 m d)) $$ [Hb Hheld]
  · isplitl [Hb] <;> iassumption
  iintro ⟨Hb, Hheld⟩
  rw [wp_ret]; imodintro
  iapply (wp_hlo_within 𝒱 (SparseCore.T d) none Set.univ (op := opBc) (S := S7) hBc (V := (opCst (F := F)).result (V0 m d))) $$ [Hb Hheld]
  · isplitl [Hb] <;> iassumption
  iintro ⟨Hb, Hheld⟩
  rw [wp_ret]; imodintro
  iapply (wp_hlo_within 𝒱 (SparseCore.T d) none Set.univ (op := opCat) (S := S7) hCat (V := (opBc (F := F)).result ((opCst (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Hx, Hbd, Hv, Hcst, Hv0, Ht, Ho⟩
  iapply ((K (F := F)).wp_run (D (F := F)) 𝒱 (EH := EH) (P := P m) κ d 0) $$ [Hst Hx Hbd Hv Ht Ho Hb Hcst Hv0 Hts]
  isplitr; · iexact Hctx
  isplitl [Hst]; · iexact Hst
  isplitl [Hx Ht Hv Ho]
  · rw [st0_eq]
    isplitl [Hx]; · iexact Hx
    isplitl [Ht]; · iexact Ht
    isplitl [Hv]; · iexact Hv
    iexact Ho
  iintro ⟨Hst, Hdn⟩
  ihave Hdn' := (Entails.of_eq (dn0_eq m d)) $$ Hdn
  icases Hdn' with ⟨Hx, -, Hv, Ho⟩
  imodintro
  isplitl [Hst]; · iexact Hst
  isplitr [Hb Hts]
  · isplitl [Hx]; · iexact Hx
    isplitl [Hbd]; · iexact Hbd
    isplitl [Hv]; · iexact Hv
    iexact Ho
  isplitl [Hb] <;> iassumption

/-- What the claims read of device `d`'s final memory. -/
def fq (d : Dev nD) (s' : Phys nD τ sig (Elt F)) : Prop :=
  s'.mem.mem (oLoc d) = R m d ∧ s'.mem.mem (xLoc d) = m (xLoc d) ∧ s'.mem.mem (bLoc d) = m (bLoc d) ∧ s'.mem.mem (vLoc d) = m (vLoc d)

set_option maxRecDepth 16384 in
theorem hfin (d : Dev nD) (s' : Phys nD τ sig (Elt F)) : iprop(FIN m d ∗ SI s') ⊢ (⌜fq m d s'⌝ : sProp 𝕄) := by
  iintro ⟨⟨Hx, Hb, Hv, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (persistent_entails_right (SI_pointsTo_agree (st := s') (ℓ := vLoc d) (I := Finset.univ) (q := fullShare) (f := m (vLoc d)))) $$ [HSI Hv]
  · isplitl [HSI] <;> iassumption
  icases H with ⟨%h3, HSI, -⟩
  ihave H := (SI_pointsTo_agree (st := s') (ℓ := oLoc d) (I := Finset.univ) (q := fullShare) (f := R m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

def QC : PUnit × MemSt nD τ sig (Elt F) → Prop := fun r =>
  (∀ c : Dev nD, r.2.mem (oLoc c) = R m c ∧ r.2.mem (xLoc c) = m (xLoc c) ∧ r.2.mem (bLoc c) = m (bLoc c) ∧ r.2.mem (vLoc c) = m (vLoc c))
    ∧ r.2.sem = fun _ => 0

/-- Every execution of the program from memory `m`: it ends, the result at `R`, the arguments as they were, every semaphore
    back at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.TileIdeal

end
-- ==== Proof.Reference.lean ====
/-
  What the reference computes, and why the search computes it. `ref_value`: at every index the reference's result is the word
  of `values` at the number of boundaries at most `x`. `search_value`: on sorted boundaries, padded by one infinite word, the
  ten-step search ends at that number. `value_eq` joins the two over Ideal.
-/
module

public import proofs.«01_k».proof.Proof.LaunchIdeal
public import proofs.«01_k».proof.Proof.Gen.ReferenceIdeal.Run
public import proofs.«01_k».proof.Proof.Gen.Pre_boundaries_sorted
public import Idealize.ShloMosaic.Lib.StableHlo.Predicate
public import Idealize.ShloMosaic.Lib.ReduceAll
public import Idealize.ShloMosaic.Lib.Pipeline.Value

@[expose] public section

noncomputable section

namespace Cert.Proof.Reference

open Idealize.ShloMosaic
open Idealize.ShloMosaic.StableHlo.Predicate
open Cert.Search (word ix pos look pos_eq_count)

/-! ## The reference's result, at any float values -/

section Value

open Cert.ReferenceIdeal Cert.ReferenceIdeal.Gen

variable {F : FTy → Type} [FloatOps F]

/-- The comparisons the reference sums: element `(p, q)` says whether boundary `q` is at most `x p`. -/
def below (x : FVec F S16777216 .f32) (b : FVec F S1023 .f32) : IVec S16777216x1023 1 :=
  cmpf .ole (broadcastInDim S16777216x1023 ![0, 1] bcast_S1x1023_S16777216x1023_0_1 (broadcastInDim S1x1023 ![1] bcast_S1023_S1x1023_1 b))
    (broadcastInDim S16777216x1023 ![0, 1] bcast_S16777216x1_S16777216x1023_0_1 (broadcastInDim S16777216x1 ![0] bcast_S16777216_S16777216x1_0 x))

theorem below_apply (x : FVec F S16777216 .f32) (b : FVec F S1023 .f32) (p : Fin 16777216) (q : Fin 1023) :
    below x b (ij p q) = FloatOps.cmpf .ole (b (Shape.Idx.ofFin q)) (x (Shape.Idx.ofFin p)) := by
  show FloatOps.cmpf .ole _ _ = _
  rw [bcast_cols, bcast_rows]

/-- How many boundaries are at most `y`. -/
def count (b : FVec F S1023 .f32) (y : F .f32) : Nat :=
  (Finset.univ.filter fun q : Fin 1023 => FloatOps.cmpf .ole (b (Shape.Idx.ofFin q)) y = 1#1).card

theorem count_le (b : FVec F S1023 .f32) (y : F .f32) : count b y ≤ 1023 := by
  have h := Finset.card_le_univ (Finset.univ.filter fun q : Fin 1023 => FloatOps.cmpf .ole (b (Shape.Idx.ofFin q)) y = 1#1)
  simpa [count] using h

/-- The sum of the comparisons. -/
def counts (x : FVec F S16777216 .f32) (b : FVec F S1023 .f32) : IVec S16777216 32 :=
  Host.reduce IntOp.addi (extui 32 (below x b) natLt_1_32) (constantI S_ 32 0#32) reducesTo_S16777216x1023_S16777216_d1 h_S_

theorem counts_toNat (x : FVec F S16777216 .f32) (b : FVec F S1023 .f32) (j : S16777216.Idx) : (counts x b j).toNat = count b (x j) := by
  unfold counts
  rw [toNat_reduce_count_cols (by decide)]
  unfold count
  congr 1
  refine Finset.filter_congr fun q _ => ?_
  refine Iff.of_eq (congrArg (· = 1#1) ((below_apply x b (j 0) q).trans ?_))
  exact congrArg (fun i => FloatOps.cmpf .ole (b (Shape.Idx.ofFin q)) (x i)) (Shape.Idx.eq_ofFin j).symm

/-- The index `jnp.take` reads at: wrapped when negative. -/
def wrapped (n : IVec S16777216 32) : IVec S16777216 32 :=
  select (cmpi .slt n (broadcastInDim S16777216 ![] bcast_S_S16777216 (constantI S_ 32 0#32)))
    (addi n (broadcastInDim S16777216 ![] bcast_S_S16777216 (constantI S_ 32 1024#32))) n

/-- `jnp.take`: the table at the wrapped index where that is in range, a NaN elsewhere. -/
def take (v : FVec F S1024 .f32) (n : IVec S16777216 32) : FVec F S16777216 .f32 :=
  select (Host.reduce IntOp.andi
      (andi (cmpi .sge (broadcastInDim S16777216x1 ![0] bcast_S16777216_S16777216x1_0 (wrapped n)) (broadcastInDim S16777216x1 ![] bcast_S_S16777216x1 (constantI S_ 32 0#32)))
        (cmpi .sle (broadcastInDim S16777216x1 ![0] bcast_S16777216_S16777216x1_0 (wrapped n))
          (broadcastInDim S16777216x1 ![0, 1] bcast_S1x1_S16777216x1_0_1 (broadcastInDim S1x1 ![1] bcast_S1_S1x1_1 (constantI S1 32 1023#32)))))
      (constantI S_ 1 1#1) reducesTo_S16777216x1_S16777216_d1 h_S_)
    (Host.gather gather_S1024_S16777216x1_S16777216_n_0_n_n_0_1_1 v (broadcastInDim S16777216x1 ![0] bcast_S16777216_S16777216x1_0 (wrapped n)))
    (broadcastInDim S16777216 ![] bcast_S_S16777216 (constant S_ .f32 0x7FC00000#32))

/-- An index in range is not wrapped. -/
theorem wrapped_eq (n : IVec S16777216 32) (hn : ∀ j, (n j).toNat ≤ 1023) : wrapped n = n := by
  funext j
  have h0 : ¬ IntOp.cmpi .slt (n j) 0#32 = 1#1 := by
    rw [slt_iff_toNat (by have := hn j; omega) (by decide)]
    exact Nat.not_lt_zero _
  show Scalar.select (IntOp.cmpi .slt (n j) 0#32) _ (n j) = n j
  exact if_neg h0

/-- A selection whose condition holds. -/
theorem select_of_one {s : Shape} {φ : FTy} (c : IVec s 1) (a b : FVec F s φ) (j : s.Idx) (h : c j = 1#1) : select c a b j = a j := if_pos h

/-- `jnp.take` at indices in range reads the table there. -/
theorem take_apply (v : FVec F S1024 .f32) (n : IVec S16777216 32) (hn : ∀ j, (n j).toNat ≤ 1023) (j : S16777216.Idx) :
    take v n j = word v (n j).toNat := by
  unfold take
  rw [wrapped_eq n hn]
  have hcol : ∀ i : S16777216x1.Idx, broadcastInDim S16777216x1 ![0] bcast_S16777216_S16777216x1_0 n i = n (Shape.Idx.ofFin (i 0)) := by
    intro i
    have e : i = ixP (i 0) := by
      funext a
      match a with
      | ⟨0, _⟩ => rfl
      | ⟨1, _⟩ => exact Subsingleton.elim (α := Fin 1) _ _
    rw [e]
    exact bcast_col1 _ n (i 0)
  have hmask : ∀ i : S16777216x1.Idx,
      (andi (cmpi .sge (broadcastInDim S16777216x1 ![0] bcast_S16777216_S16777216x1_0 n) (broadcastInDim S16777216x1 ![] bcast_S_S16777216x1 (constantI S_ 32 0#32)))
        (cmpi .sle (broadcastInDim S16777216x1 ![0] bcast_S16777216_S16777216x1_0 n)
          (broadcastInDim S16777216x1 ![0, 1] bcast_S1x1_S16777216x1_0_1 (broadcastInDim S1x1 ![1] bcast_S1_S1x1_1 (constantI S1 32 1023#32))))) i = 1#1 := by
    intro i
    show IntOp.andi (IntOp.cmpi .sge (broadcastInDim S16777216x1 ![0] bcast_S16777216_S16777216x1_0 n i) 0#32)
      (IntOp.cmpi .sle (broadcastInDim S16777216x1 ![0] bcast_S16777216_S16777216x1_0 n i) 1023#32) = 1#1
    rw [hcol]
    have hi := hn (Shape.Idx.ofFin (i 0))
    have h1 : IntOp.cmpi .sge (n (Shape.Idx.ofFin (i 0))) 0#32 = 1#1 := (sge_iff_toNat (by omega) (by decide)).2 (Nat.zero_le _)
    have h2 : IntOp.cmpi .sle (n (Shape.Idx.ofFin (i 0))) 1023#32 = 1#1 := (sle_iff_toNat (by omega) (by decide)).2 hi
    rw [h1, h2]; rfl
  refine (select_of_one _ _ _ j (Host.reduce_andi_one _ _ _ _ j rfl hmask)).trans ?_
  obtain ⟨p, rfl⟩ : ∃ p : Fin 16777216, j = Shape.Idx.ofFin p := ⟨j 0, Shape.Idx.eq_ofFin j⟩
  refine (gather_take gather_S1024_S16777216x1_S16777216_n_0_n_n_0_1_1 rfl rfl rfl rfl v _ p (by decide)).trans ?_
  have hp : (n (Shape.Idx.ofFin p)).toNat ≤ 1023 := hn (Shape.Idx.ofFin p)
  have hi : (broadcastInDim S16777216x1 ![0] bcast_S16777216_S16777216x1_0 n (ixP p)).toInt.toNat = (n (Shape.Idx.ofFin p)).toNat := by
    rw [bcast_col1, toInt_eq_toNat_of_lt (by omega), Int.toNat_natCast]
  refine congrArg v (funext fun a => Fin.ext ?_)
  obtain rfl := Fin.eq_zero a
  show min (broadcastInDim S16777216x1 ![0] bcast_S16777216_S16777216x1_0 n (ixP p)).toInt.toNat (1024 - 1) = (n (Shape.Idx.ofFin p)).toNat % 1024
  rw [hi]
  omega

/-- The reference's result at index `j`: the word of `values` at the number of boundaries at most `x j`. -/
theorem ref_value (m : (ℓ : Loc nD τ sig) → Buf (Elt F) ℓ) (c : Dev nD) (j : S16777216.Idx) :
    Cert.ReferenceIdeal.Value.res_main_v7 m c j
      = word (m ((c.tc : Thread nD τ).loc main_arg2)) (count (m ((c.tc : Thread nD τ).loc main_arg1)) (m ((c.tc : Thread nD τ).loc main_arg0) j)) := by
  have h : Cert.ReferenceIdeal.Value.res_main_v7 m c
      = take (m ((c.tc : Thread nD τ).loc main_arg2)) (counts (m ((c.tc : Thread nD τ).loc main_arg0)) (m ((c.tc : Thread nD τ).loc main_arg1))) := rfl
  rw [h, take_apply _ _ (fun i => by rw [counts_toNat]; exact count_le _ _), counts_toNat]

end Value

/-! ## The search on sorted boundaries, over Ideal -/

section Sorted

open Cert.KernelIdeal Cert.KernelIdeal.Gen

/-- A word of the padded table below the padding is a boundary. -/
theorem word_pad {F : FTy → Type} [FloatOps F] (b : S1023.Idx → F .f32) (j : Nat) (hj : j < 1023) :
    word (Cert.Proof.TileIdeal.pad b) j = b (Shape.Idx.ofFin ⟨j, hj⟩) := by
  unfold word Cert.Proof.TileIdeal.pad
  refine concatenate_pair_apply_left (t := S1024) (s₁ := S1023) (s₂ := S1) 0 b _ _ (ix j) rfl (Shape.Idx.ofFin ⟨j, hj⟩) ?_
  intro a
  obtain rfl := Fin.eq_zero a
  exact (Nat.mod_eq_of_lt (show j < 1024 by omega)).symm

/-- What the precondition says: the boundaries do not decrease. -/
theorem sorted_of_pre (x : S16777216.Idx → EReal) (b : S1023.Idx → EReal) (v : S1024.Idx → EReal)
    (h : Cert.Pre_boundaries_sorted.fn (F := Ideal) x b v = fun _ => 1#1) :
    ∀ (i j : Nat) (hj : j < 1023) (hij : i ≤ j), b (Shape.Idx.ofFin ⟨i, by omega⟩) ≤ b (Shape.Idx.ofFin ⟨j, hj⟩) := by
  have hstep : ∀ (j : Nat) (hj : j + 1 < 1023), b (Shape.Idx.ofFin ⟨j, by omega⟩) ≤ b (Shape.Idx.ofFin ⟨j + 1, hj⟩) := by
    intro j hj
    have h1 := congrFun h (fun a => Fin.elim0 a)
    haveI : Subsingleton Cert.Pre_boundaries_sorted.S_.Idx := ⟨fun a b => funext fun i => Fin.elim0 i⟩
    have h2 := Host.reduce_andi_all _ _ _ _ _ h1 (Shape.Idx.ofFin ⟨j, by omega⟩)
    have h3 : Ideal.cmp .ole (b (Shape.Idx.ofFin ⟨j, by omega⟩)) (b (Shape.Idx.ofFin ⟨j + 1, hj⟩)) = 1#1 := by
      refine Eq.trans ?_ h2
      refine congrArg₂ (Ideal.cmp .ole) (congrArg b ?_) (congrArg b ?_)
      · funext a; apply Fin.ext; obtain rfl := Fin.eq_zero a
        show j = 0 + j; omega
      · funext a; apply Fin.ext; obtain rfl := Fin.eq_zero a
        show j + 1 = 1 + j; omega
    exact of_decide_eq_true ((ofBool_eq_one_iff _).1 h3)
  intro i j
  induction j with
  | zero => intro hj hij; obtain rfl : i = 0 := by omega
            exact le_refl _
  | succ j ih =>
    intro hj hij
    rcases Nat.lt_or_ge j i with h | h
    · obtain rfl : i = j + 1 := by omega
      exact le_refl _
    · exact (ih (by omega) h).trans (hstep j hj)

/-- Of sorted boundaries, those at most `y` are the first `count b y`. -/
theorem le_iff_lt_count (b : S1023.Idx → EReal)
    (hs : ∀ (i j : Nat) (hj : j < 1023) (hij : i ≤ j), b (Shape.Idx.ofFin ⟨i, by omega⟩) ≤ b (Shape.Idx.ofFin ⟨j, hj⟩))
    (y : EReal) (j : Nat) (hj : j < 1023) :
    Ideal.cmp .ole (b (Shape.Idx.ofFin ⟨j, hj⟩)) y = 1#1 ↔ j < count (F := Ideal) b y := by
  have hc : ∀ q : Fin 1023, Ideal.cmp .ole (b (Shape.Idx.ofFin q)) y = 1#1 ↔ b (Shape.Idx.ofFin q) ≤ y := fun q =>
    (ofBool_eq_one_iff _).trans decide_eq_true_iff
  constructor
  · intro h
    have hsub : Finset.Iic (⟨j, hj⟩ : Fin 1023) ⊆ Finset.univ.filter fun q : Fin 1023 => Ideal.cmp .ole (b (Shape.Idx.ofFin q)) y = 1#1 := by
      intro q hq
      have hle : q ≤ (⟨j, hj⟩ : Fin 1023) := Finset.mem_Iic.1 hq
      rw [Finset.mem_filter]
      exact ⟨Finset.mem_univ _, (hc q).2 ((hs q.val j hj hle).trans ((hc _).1 h))⟩
    have hcard := Finset.card_le_card hsub
    rw [Fin.card_Iic] at hcard
    exact hcard
  · intro h
    by_contra hn
    have hsub : (Finset.univ.filter fun q : Fin 1023 => Ideal.cmp .ole (b (Shape.Idx.ofFin q)) y = 1#1) ⊆ Finset.Iio (⟨j, hj⟩ : Fin 1023) := by
      intro q hq
      rw [Finset.mem_filter] at hq
      rw [Finset.mem_Iio]
      by_contra hlt
      exact hn ((hc _).2 ((hs j q.val q.isLt (not_lt.1 hlt)).trans ((hc q).1 hq.2)))
    have hcard := Finset.card_le_card hsub
    rw [Fin.card_Iio] at hcard
    exact absurd h (Nat.not_lt.2 hcard)

/-- On sorted boundaries the search ends at the number of boundaries at most `y`. -/
theorem search_value (b : S1023.Idx → EReal)
    (hs : ∀ (i j : Nat) (hj : j < 1023) (hij : i ≤ j), b (Shape.Idx.ofFin ⟨i, by omega⟩) ≤ b (Shape.Idx.ofFin ⟨j, hj⟩)) (y : EReal) :
    pos (F := Ideal) (Cert.Proof.TileIdeal.pad (F := Ideal) b) y 10 = count (F := Ideal) b y :=
  pos_eq_count (F := Ideal) _ _ _ (count_le _ _) fun j hj => by
    rw [word_pad (F := Ideal) b j hj]
    exact le_iff_lt_count b hs y j hj

end Sorted

/-- On sorted boundaries, one number looked up is the word of `values` at the number of boundaries at most it. -/
theorem look_eq (x : Cert.KernelIdeal.S16777216.Idx → EReal) (b : Cert.KernelIdeal.S1023.Idx → EReal) (v : Cert.KernelIdeal.S1024.Idx → EReal)
    (hpre : Cert.Pre_boundaries_sorted.fn (F := Ideal) x b v = fun _ => 1#1) (y : EReal) :
    look (F := Ideal) (Cert.Proof.TileIdeal.pad (F := Ideal) b) v y = word v (count (F := Ideal) b y) :=
  congrArg (word v) (search_value b (sorted_of_pre x b v hpre) y)

/-- On sorted boundaries the kernel's result is the reference's, their arguments being equal. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_boundaries_sorted.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v7 m' c = Cert.Proof.TileIdeal.R (F := Ideal) m c := by
  have hR : Cert.Proof.TileIdeal.R (F := Ideal) m c
      = fun j => look (F := Ideal) (Cert.Proof.TileIdeal.pad (F := Ideal) (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          ((m ((c.tc : Thread Cert.KernelIdeal.nD Cert.KernelIdeal.τ).loc Cert.KernelIdeal.main_arg0) : Cert.KernelIdeal.S16777216.Idx → EReal) j) := rfl
  refine Eq.trans (funext fun j => ?_) hR.symm
  refine (ref_value (F := Ideal) m' c j).trans (Eq.trans ?_ (look_eq _ _ _ hpre _).symm)
  rw [h0, h1, h2]

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_boundaries_sorted
public import proofs.«01_k».proof.Proof.Launch
public import proofs.«01_k».proof.Proof.LaunchIdeal
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The compiled program's frame: from any memory every execution ends without a fault, the three arguments as they were
    and every semaphore at zero. The run of Proof/Launch.lean with the result dropped. -/
theorem frame_kernel : Cert.quiescent_Kernel := fun m ρ _ =>
  (θ_run Cert.Kernel.defs _ _).mono (fun _ h => ⟨fun c => (h.1 c).2, h.2⟩) (Cert.Proof.Tile.run_main (F := Bits) m ρ)

/-- The same of the program read over the ideal numbers. -/
theorem frame_ideal : Cert.quiescent_KernelIdeal := fun m ρ _ =>
  (θ_run Cert.KernelIdeal.defs _ _).mono (fun _ h => ⟨fun c => (h.1 c).2, h.2⟩) (Cert.Proof.TileIdeal.run_main (F := Ideal) m ρ)

/-- The same from the memories whose boundaries are sorted. -/
theorem frame_ideal_sorted : Cert.quiescent_KernelIdeal_pre_boundaries_sorted := fun m ρ _ => frame_ideal m ρ trivial

/-- The reference's frame: the generated run with the result dropped; the program declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories whose boundaries are sorted. -/
theorem frame_reference_sorted : Cert.quiescent_ReferenceIdeal_pre_boundaries_sorted := fun m ρ _ => frame_reference m ρ trivial

/-- Over the ideal numbers, on sorted boundaries, the program and the reference end with the same result: at every index the
    word of `values` at the number of boundaries at most `x` there. -/
theorem algebraic : Cert.algebraic_KernelIdeal_ReferenceIdeal_pre_boundaries_sorted := by
  intro m ρ m' ρ' hpre hagree
  refine ⟨fun c => Cert.Proof.TileIdeal.R (F := Ideal) m c, ?_, ?_⟩
  · exact (θ_run Cert.KernelIdeal.defs _ _).mono (fun _ h c => h.1 c) (Cert.Proof.TileIdeal.run_main (F := Ideal) m ρ)
  · exact (θ_run Cert.ReferenceIdeal.defs _ _).mono
      (fun _ h c => ⟨(h c).1.trans (Cert.Proof.Reference.value_eq m m' c (hpre c) (hagree c).1 (hagree c).2.1 (hagree c).2.2), (h c).2⟩)
      (Cert.ReferenceIdeal.Value.run (F := Ideal) m' ρ')

/-- The certificate's claim: the frames, the idealization's faithfulness (it rewrote nothing) and the equality of the results. -/
theorem claim : Cert.Claim := ⟨Cert.Kernel.Gen.facts, Cert.KernelIdeal.Gen.facts, Cert.ReferenceIdeal.Gen.facts, Cert.Pre_boundaries_sorted.Gen.facts,
  frame_kernel, frame_ideal, frame_ideal_sorted, frame_reference, frame_reference_sorted, trivial, algebraic⟩

end Cert.Proof

end
